-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_RefDyIdeal (m : (ℓ : Loc Cert.RefDyIdeal.nD Cert.RefDyIdeal.τ Cert.RefDyIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1)
      ∧ r.2.mem ((c.tc : Thread Cert.Dy.nD Cert.Dy.τ).loc Cert.Dy.main_arg2) = m ((c.tc : Thread Cert.Dy.nD Cert.Dy.τ).loc Cert.Dy.main_arg2))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1)
      ∧ r.2.mem ((c.tc : Thread Cert.DyIdeal.nD Cert.DyIdeal.τ).loc Cert.DyIdeal.main_arg2) = m ((c.tc : Thread Cert.DyIdeal.nD Cert.DyIdeal.τ).loc Cert.DyIdeal.main_arg2))
      ∧ r.2.sem = fun _ => 0)

def quiescent_RefDyIdeal [hRefDyIdeal : Cert.RefDyIdeal.Facts] : Prop :=
  ∀ (m : (ℓ : Loc Cert.RefDyIdeal.nD Cert.RefDyIdeal.τ Cert.RefDyIdeal.sig) → Buf (Elt Ideal) ℓ) (g : Dev Cert.RefDyIdeal.nD → PrngReg), Pre_RefDyIdeal m →
    θ_run (Cert.RefDyIdeal.defs (F := Ideal)) (onTc (τ := Cert.RefDyIdeal.τ) (Cert.RefDyIdeal.main (F := Ideal))) ⟨m, fun _ => 0, g⟩ (fun r => (∀ c : Dev Cert.RefDyIdeal.nD,
      r.2.mem ((c.tc : Thread Cert.RefDyIdeal.nD Cert.RefDyIdeal.τ).loc Cert.RefDyIdeal.main_arg0) = m ((c.tc : Thread Cert.RefDyIdeal.nD Cert.RefDyIdeal.τ).loc Cert.RefDyIdeal.main_arg0)
      ∧ r.2.mem ((c.tc : Thread Cert.RefDyIdeal.nD Cert.RefDyIdeal.τ).loc Cert.RefDyIdeal.main_arg1) = m ((c.tc : Thread Cert.RefDyIdeal.nD Cert.RefDyIdeal.τ).loc Cert.RefDyIdeal.main_arg1)
      ∧ r.2.mem ((c.tc : Thread Cert.RefDyIdeal.nD Cert.RefDyIdeal.τ).loc Cert.RefDyIdeal.main_arg2) = m ((c.tc : Thread Cert.RefDyIdeal.nD Cert.RefDyIdeal.τ).loc Cert.RefDyIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v168) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Dy_DyIdeal : Prop :=
  True

def algebraic_DyIdeal_RefDyIdeal [hDyIdeal : Cert.DyIdeal.Facts] [hRefDyIdeal : Cert.RefDyIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.RefDyIdeal.nD Cert.RefDyIdeal.τ Cert.RefDyIdeal.sig) → Buf (Elt Ideal) ℓ) (g' : Dev Cert.RefDyIdeal.nD → PrngReg), Pre_DyIdeal m →
    (∀ c : Dev Cert.DyIdeal.nD,
      m' ((c.tc : Thread Cert.RefDyIdeal.nD Cert.RefDyIdeal.τ).loc Cert.RefDyIdeal.main_arg0) = m ((c.tc : Thread Cert.DyIdeal.nD Cert.DyIdeal.τ).loc Cert.DyIdeal.main_arg0)
      ∧ m' ((c.tc : Thread Cert.RefDyIdeal.nD Cert.RefDyIdeal.τ).loc Cert.RefDyIdeal.main_arg1) = m ((c.tc : Thread Cert.DyIdeal.nD Cert.DyIdeal.τ).loc Cert.DyIdeal.main_arg1)
      ∧ m' ((c.tc : Thread Cert.RefDyIdeal.nD Cert.RefDyIdeal.τ).loc Cert.RefDyIdeal.main_arg2) = m ((c.tc : Thread Cert.DyIdeal.nD Cert.DyIdeal.τ).loc Cert.DyIdeal.main_arg2)) →
    ∃ (v0 : (c : Dev Cert.DyIdeal.nD) → Buf (Elt Ideal) ((c.tc : Thread Cert.DyIdeal.nD Cert.DyIdeal.τ).loc Cert.DyIdeal.main_v2_0)) (v1 : (c : Dev Cert.DyIdeal.nD) → Buf (Elt Ideal) ((c.tc : Thread Cert.DyIdeal.nD Cert.DyIdeal.τ).loc Cert.DyIdeal.main_v2_1)) (v2 : (c : Dev Cert.DyIdeal.nD) → Buf (Elt Ideal) ((c.tc : Thread Cert.DyIdeal.nD Cert.DyIdeal.τ).loc Cert.DyIdeal.main_v2_2)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v2_0) = v0 c
          ∧ r.2.mem ((c.tc : Thread Cert.DyIdeal.nD Cert.DyIdeal.τ).loc Cert.DyIdeal.main_v2_1) = v1 c
          ∧ r.2.mem ((c.tc : Thread Cert.DyIdeal.nD Cert.DyIdeal.τ).loc Cert.DyIdeal.main_v2_2) = v2 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1)
          ∧ r.2.mem ((c.tc : Thread Cert.DyIdeal.nD Cert.DyIdeal.τ).loc Cert.DyIdeal.main_arg2) = m ((c.tc : Thread Cert.DyIdeal.nD Cert.DyIdeal.τ).loc Cert.DyIdeal.main_arg2))
      ∧ θ_run (Cert.RefDyIdeal.defs (F := Ideal)) (onTc (τ := Cert.RefDyIdeal.τ) (Cert.RefDyIdeal.main (F := Ideal))) ⟨m', fun _ => 0, g'⟩ (fun r => ∀ c : Dev Cert.RefDyIdeal.nD,
          r.2.mem ((c.tc : Thread Cert.RefDyIdeal.nD Cert.RefDyIdeal.τ).loc Cert.RefDyIdeal.main_v108) = v0 c
          ∧ r.2.mem ((c.tc : Thread Cert.RefDyIdeal.nD Cert.RefDyIdeal.τ).loc Cert.RefDyIdeal.main_v179) = v1 c
          ∧ r.2.mem ((c.tc : Thread Cert.RefDyIdeal.nD Cert.RefDyIdeal.τ).loc Cert.RefDyIdeal.main_v180) = v2 c
          ∧ r.2.mem ((c.tc : Thread Cert.RefDyIdeal.nD Cert.RefDyIdeal.τ).loc Cert.RefDyIdeal.main_arg0) = m' ((c.tc : Thread Cert.RefDyIdeal.nD Cert.RefDyIdeal.τ).loc Cert.RefDyIdeal.main_arg0)
          ∧ r.2.mem ((c.tc : Thread Cert.RefDyIdeal.nD Cert.RefDyIdeal.τ).loc Cert.RefDyIdeal.main_arg1) = m' ((c.tc : Thread Cert.RefDyIdeal.nD Cert.RefDyIdeal.τ).loc Cert.RefDyIdeal.main_arg1)
          ∧ r.2.mem ((c.tc : Thread Cert.RefDyIdeal.nD Cert.RefDyIdeal.τ).loc Cert.RefDyIdeal.main_arg2) = m' ((c.tc : Thread Cert.RefDyIdeal.nD Cert.RefDyIdeal.τ).loc Cert.RefDyIdeal.main_arg2))

def Claim : Prop :=
  ∃ (hKernel : Cert.Kernel.Facts) (hKernelIdeal : Cert.KernelIdeal.Facts) (hReferenceIdeal : Cert.ReferenceIdeal.Facts) (hDy : Cert.Dy.Facts) (hDyIdeal : Cert.DyIdeal.Facts) (hRefDyIdeal : Cert.RefDyIdeal.Facts),
    quiescent_Kernel (hKernel := hKernel)
    ∧ quiescent_KernelIdeal (hKernelIdeal := hKernelIdeal)
    ∧ quiescent_ReferenceIdeal (hReferenceIdeal := hReferenceIdeal)
    ∧ quiescent_Dy (hDy := hDy)
    ∧ quiescent_DyIdeal (hDyIdeal := hDyIdeal)
    ∧ quiescent_RefDyIdeal (hRefDyIdeal := hRefDyIdeal)
    ∧ preserves_Kernel_KernelIdeal
    ∧ algebraic_KernelIdeal_ReferenceIdeal (hKernelIdeal := hKernelIdeal) (hReferenceIdeal := hReferenceIdeal)
    ∧ preserves_Dy_DyIdeal
    ∧ algebraic_DyIdeal_RefDyIdeal (hDyIdeal := hDyIdeal) (hRefDyIdeal := hRefDyIdeal)
-- ==== Kernel.lean ====
abbrev S4x384x7168 : Shape := ⟨3, ![4, 384, 7168]⟩
abbrev S16 : Shape := ⟨1, ![16]⟩
abbrev S2048x1536 : Shape := ⟨2, ![2048, 1536]⟩
abbrev S1536x7168 : Shape := ⟨2, ![1536, 7168]⟩
abbrev S2048x7168 : Shape := ⟨2, ![2048, 7168]⟩
abbrev S768x7168 : Shape := ⟨2, ![768, 7168]⟩
abbrev S4x12x7168 : Shape := ⟨3, ![4, 12, 7168]⟩
abbrev S1536x512 : Shape := ⟨2, ![1536, 512]⟩
abbrev S2048x512 : Shape := ⟨2, ![2048, 512]⟩
abbrev S768x512 : Shape := ⟨2, ![768, 512]⟩
abbrev S4x12x512 : Shape := ⟨3, ![4, 12, 512]⟩
abbrev S256x256 : Shape := ⟨2, ![256, 256]⟩
abbrev S64x512 : Shape := ⟨2, ![64, 512]⟩
abbrev S8x512 : Shape := ⟨2, ![8, 512]⟩
abbrev S48x512 : Shape := ⟨2, ![48, 512]⟩
abbrev S1x256 : Shape := ⟨2, ![1, 256]⟩
abbrev S1 : Shape := ⟨1, ![1]⟩
abbrev S256x512 : Shape := ⟨2, ![256, 512]⟩
abbrev S8x32x512 : Shape := ⟨3, ![8, 32, 512]⟩
abbrev S32x512 : Shape := ⟨2, ![32, 512]⟩
abbrev S1x512 : Shape := ⟨2, ![1, 512]⟩
abbrev S32x8x512 : Shape := ⟨3, ![32, 8, 512]⟩
abbrev S32x1x512 : Shape := ⟨3, ![32, 1, 512]⟩
abbrev S128x512 : Shape := ⟨2, ![128, 512]⟩
abbrev S16x512 : Shape := ⟨2, ![16, 512]⟩
abbrev S12x512 : Shape := ⟨2, ![12, 512]⟩
abbrev S1x12x512 : Shape := ⟨3, ![1, 12, 512]⟩

abbrev nBuf : Space → Nat
  | .hbm => 7
  | .vmem => 15
  | .smem => 1
  | _ => 0

abbrev bufTy : (tb : Table) → Fin (tcTables nBuf tb) → BufTy
  | .hbm, ⟨0, _⟩ => ⟨S4x384x7168, .bf16⟩
  | .hbm, ⟨1, _⟩ => ⟨S16, .f32⟩
  | .hbm, ⟨2, _⟩ => ⟨S2048x1536, .bf16⟩
  | .hbm, ⟨3, _⟩ => ⟨S1536x7168, .bf16⟩
  | .hbm, ⟨4, _⟩ => ⟨S2048x7168, .f32⟩
  | .hbm, ⟨5, _⟩ => ⟨S768x7168, .i8⟩
  | .hbm, ⟨6, _⟩ => ⟨S4x12x7168, .i8⟩
  | .local _ .vmem, ⟨0, _⟩ => ⟨S1536x512, .bf16⟩
  | .local _ .vmem, ⟨1, _⟩ => ⟨S1536x512, .bf16⟩
  | .local _ .vmem, ⟨2, _⟩ => ⟨S2048x1536, .bf16⟩
  | .local _ .vmem, ⟨3, _⟩ => ⟨S2048x512, .f32⟩
  | .local _ .vmem, ⟨4, _⟩ => ⟨S2048x512, .f32⟩
  | .local _ .vmem, ⟨5, _⟩ => ⟨S768x512, .i8⟩
  | .local _ .vmem, ⟨6, _⟩ => ⟨S768x512, .i8⟩
  | .local _ .vmem, ⟨7, _⟩ => ⟨S4x12x512, .i8⟩
  | .local _ .vmem, ⟨8, _⟩ => ⟨S4x12x512, .i8⟩
  | .local _ .vmem, ⟨9, _⟩ => ⟨S256x256, .bf16⟩
  | .local _ .vmem, ⟨10, _⟩ => ⟨S1536x512, .bf16⟩
  | .local _ .vmem, ⟨11, _⟩ => ⟨S64x512, .f32⟩
  | .local _ .vmem, ⟨12, _⟩ => ⟨S8x512, .f32⟩
  | .local _ .vmem, ⟨13, _⟩ => ⟨S8x512, .i32⟩
  | .local _ .vmem, ⟨14, _⟩ => ⟨S48x512, .i32⟩
  | .local _ .smem, ⟨0, _⟩ => ⟨S16, .f32⟩
  | _, _ => ⟨S4x384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![14], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x12x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x384x7168 : Shape := ⟨3, ![4, 384, 7168]⟩
abbrev S16 : Shape := ⟨1, ![16]⟩
abbrev S2048x1536 : Shape := ⟨2, ![2048, 1536]⟩
abbrev S16x16 : Shape := ⟨2, ![16, 16]⟩
abbrev S_ : Shape := ⟨0, ![]⟩
abbrev S1x16 : Shape := ⟨2, ![1, 16]⟩
abbrev S1536x7168 : Shape := ⟨2, ![1536, 7168]⟩
abbrev S96x16x7168 : Shape := ⟨3, ![96, 16, 7168]⟩
abbrev S96x7168x16 : Shape := ⟨3, ![96, 7168, 16]⟩
abbrev S48x32x7168 : Shape := ⟨3, ![48, 32, 7168]⟩
abbrev S48x7168 : Shape := ⟨2, ![48, 7168]⟩
abbrev S48x1x7168 : Shape := ⟨3, ![48, 1, 7168]⟩
abbrev S768x2x7168 : Shape := ⟨3, ![768, 2, 7168]⟩
abbrev S768x1x7168 : Shape := ⟨3, ![768, 1, 7168]⟩
abbrev S768x7168 : Shape := ⟨2, ![768, 7168]⟩
abbrev S2048x7168 : Shape := ⟨2, ![2048, 7168]⟩
abbrev S4x12x7168 : Shape := ⟨3, ![4, 12, 7168]⟩

abbrev nBuf : Space → Nat
  | .hbm => 258
  | .vmem => 0
  | .smem => 0
  | _ => 0

abbrev hbmTy0_0 (i : Nat) : BufTy := match i % 128 with
  | 0 => ⟨S4x384x7168, .bf16⟩
  | 1 => ⟨S16, .f32⟩
  | 2 => ⟨S2048x1536, .bf16⟩
  | 3 => ⟨S16x16, .i32⟩
  | 4 => ⟨S16x16, .i32⟩
  | 5 => ⟨S16x16, .i32⟩
  | 6 => ⟨S16x16, .i32⟩
  | 7 => ⟨S_, .i32⟩
  | 8 => ⟨S16x16, .i32⟩
  | 9 => ⟨S16x16, .i32⟩
  | 10 => ⟨S_, .i32⟩
  | 11 => ⟨S16x16, .i32⟩
  | 12 => ⟨S16x16, .i32⟩
  | 13 => ⟨S_, .i32⟩
  | 14 => ⟨S16x16, .i32⟩
  | 15 => ⟨S16x16, .i32⟩
  | 16 => ⟨S16x16, .f32⟩
  | 17 => ⟨S1x16, .f32⟩
  | 18 => ⟨S16x16, .f32⟩
  | 19 => ⟨S16x16, .f32⟩
  | 20 => ⟨S_, .f32⟩
  | 21 => ⟨S16x16, .f32⟩
  | 22 => ⟨S16x16, .f32⟩
  | 23 => ⟨S1536x7168, .bf16⟩
  | 24 => ⟨S1536x7168, .f32⟩
  | 25 => ⟨S96x16x7168, .f32⟩
  | 26 => ⟨S96x7168x16, .f32⟩
  | 27 => ⟨S96x16x7168, .f32⟩
  | 28 => ⟨S1536x7168, .f32⟩
  | 29 => ⟨S48x32x7168, .f32⟩
  | 30 => ⟨S48x32x7168, .f32⟩
  | 31 => ⟨S_, .f32⟩
  | 32 => ⟨S48x7168, .f32⟩
  | 33 => ⟨S48x7168, .f32⟩
  | 34 => ⟨S_, .f32⟩
  | 35 => ⟨S48x7168, .f32⟩
  | 36 => ⟨S48x7168, .f32⟩
  | 37 => ⟨S48x7168, .f32⟩
  | 38 => ⟨S48x7168, .f32⟩
  | 39 => ⟨S48x7168, .i32⟩
  | 40 => ⟨S_, .i32⟩
  | 41 => ⟨S48x7168, .i32⟩
  | 42 => ⟨S48x7168, .i32⟩
  | 43 => ⟨S_, .f32⟩
  | 44 => ⟨S48x7168, .f32⟩
  | 45 => ⟨S48x7168, .i1⟩
  | 46 => ⟨S_, .i32⟩
  | 47 => ⟨S_, .i32⟩
  | 48 => ⟨S48x7168, .i32⟩
  | 49 => ⟨S48x7168, .i32⟩
  | 50 => ⟨S_, .i32⟩
  | 51 => ⟨S48x7168, .i32⟩
  | 52 => ⟨S48x7168, .i32⟩
  | 53 => ⟨S_, .i32⟩
  | 54 => ⟨S48x7168, .i32⟩
  | 55 => ⟨S48x7168, .i32⟩
  | 56 => ⟨S48x7168, .i8⟩
  | 57 => ⟨S_, .i32⟩
  | 58 => ⟨S48x7168, .i32⟩
  | 59 => ⟨S48x7168, .i32⟩
  | 60 => ⟨S48x7168, .f32⟩
  | 61 => ⟨S_, .f32⟩
  | 62 => ⟨S48x7168, .f32⟩
  | 63 => ⟨S48x7168, .f32⟩
  | 64 => ⟨S48x1x7168, .f32⟩
  | 65 => ⟨S48x32x7168, .f32⟩
  | 66 => ⟨S48x32x7168, .f32⟩
  | 67 => ⟨S1536x7168, .f32⟩
  | 68 => ⟨S1536x7168, .f32⟩
  | 69 => ⟨S_, .f32⟩
  | 70 => ⟨S1536x7168, .f32⟩
  | 71 => ⟨S1536x7168, .f32⟩
  | 72 => ⟨S_, .f32⟩
  | 73 => ⟨S1536x7168, .f32⟩
  | 74 => ⟨S1536x7168, .i1⟩
  | 75 => ⟨S_, .f32⟩
  | 76 => ⟨S1536x7168, .f32⟩
  | 77 => ⟨S1536x7168, .i1⟩
  | 78 => ⟨S_, .f32⟩
  | 79 => ⟨S_, .f32⟩
  | 80 => ⟨S1536x7168, .f32⟩
  | 81 => ⟨S1536x7168, .f32⟩
  | 82 => ⟨S1536x7168, .f32⟩
  | 83 => ⟨S_, .f32⟩
  | 84 => ⟨S1536x7168, .f32⟩
  | 85 => ⟨S1536x7168, .f32⟩
  | 86 => ⟨S1536x7168, .f32⟩
  | 87 => ⟨S1536x7168, .f32⟩
  | 88 => ⟨S1536x7168, .f32⟩
  | 89 => ⟨S1536x7168, .f32⟩
  | 90 => ⟨S1536x7168, .f32⟩
  | 91 => ⟨S_, .f32⟩
  | 92 => ⟨S1536x7168, .f32⟩
  | 93 => ⟨S1536x7168, .i1⟩
  | 94 => ⟨S_, .f32⟩
  | 95 => ⟨S1536x7168, .f32⟩
  | 96 => ⟨S1536x7168, .f32⟩
  | 97 => ⟨S_, .f32⟩
  | 98 => ⟨S1536x7168, .f32⟩
  | 99 => ⟨S1536x7168, .i1⟩
  | 100 => ⟨S_, .f32⟩
  | 101 => ⟨S1536x7168, .f32⟩
  | 102 => ⟨S1536x7168, .f32⟩
  | 103 => ⟨S_, .f32⟩
  | 104 => ⟨S1536x7168, .f32⟩
  | 105 => ⟨S1536x7168, .f32⟩
  | 106 => ⟨S_, .f32⟩
  | 107 => ⟨S1536x7168, .f32⟩
  | 108 => ⟨S1536x7168, .f32⟩
  | 109 => ⟨S1536x7168, .f32⟩
  | 110 => ⟨S1536x7168, .f32⟩
  | 111 => ⟨S1536x7168, .i32⟩
  | 112 => ⟨S_, .f32⟩
  | 113 => ⟨S1536x7168, .f32⟩
  | 114 => ⟨S1536x7168, .i1⟩
  | 115 => ⟨S_, .f32⟩
  | 116 => ⟨S1536x7168, .f32⟩
  | 117 => ⟨S1536x7168, .i1⟩
  | 118 => ⟨S1536x7168, .i1⟩
  | 119 => ⟨S1536x7168, .i32⟩
  | 120 => ⟨S_, .i32⟩
  | 121 => ⟨S1536x7168, .i32⟩
  | 122 => ⟨S1536x7168, .i32⟩
  | 123 => ⟨S1536x7168, .i32⟩
  | 124 => ⟨S768x2x7168, .i32⟩
  | 125 => ⟨S768x1x7168, .i32⟩
  | 126 => ⟨S768x7168, .i32⟩
  | 127 => ⟨S768x1x7168, .i32⟩
  | _ => ⟨S4x384x7168, .bf16⟩

abbrev hbmTy0_1 (i : Nat) : BufTy := match i % 128 with
  | 0 => ⟨S768x7168, .i32⟩
  | 1 => ⟨S_, .i32⟩
  | 2 => ⟨S768x7168, .i32⟩
  | 3 => ⟨S768x7168, .i32⟩
  | 4 => ⟨S768x7168, .i32⟩
  | 5 => ⟨S768x7168, .i8⟩
  | 6 => ⟨S768x7168, .i32⟩
  | 7 => ⟨S_, .i32⟩
  | 8 => ⟨S768x7168, .i32⟩
  | 9 => ⟨S768x7168, .i32⟩
  | 10 => ⟨S_, .i32⟩
  | 11 => ⟨S768x7168, .i32⟩
  | 12 => ⟨S768x7168, .i32⟩
  | 13 => ⟨S_, .i32⟩
  | 14 => ⟨S768x7168, .i32⟩
  | 15 => ⟨S768x7168, .i1⟩
  | 16 => ⟨S_, .i32⟩
  | 17 => ⟨S768x7168, .i32⟩
  | 18 => ⟨S768x7168, .i32⟩
  | 19 => ⟨S_, .i32⟩
  | 20 => ⟨S768x7168, .i32⟩
  | 21 => ⟨S768x7168, .i1⟩
  | 22 => ⟨S_, .i32⟩
  | 23 => ⟨S768x7168, .i32⟩
  | 24 => ⟨S768x7168, .i32⟩
  | 25 => ⟨S_, .i32⟩
  | 26 => ⟨S768x7168, .i32⟩
  | 27 => ⟨S768x7168, .i1⟩
  | 28 => ⟨S_, .i32⟩
  | 29 => ⟨S768x7168, .i32⟩
  | 30 => ⟨S768x7168, .i32⟩
  | 31 => ⟨S_, .i32⟩
  | 32 => ⟨S768x7168, .i32⟩
  | 33 => ⟨S768x7168, .i1⟩
  | 34 => ⟨S_, .bf16⟩
  | 35 => ⟨S_, .bf16⟩
  | 36 => ⟨S768x7168, .bf16⟩
  | 37 => ⟨S768x7168, .bf16⟩
  | 38 => ⟨S768x7168, .bf16⟩
  | 39 => ⟨S_, .bf16⟩
  | 40 => ⟨S_, .bf16⟩
  | 41 => ⟨S768x7168, .bf16⟩
  | 42 => ⟨S768x7168, .bf16⟩
  | 43 => ⟨S768x7168, .bf16⟩
  | 44 => ⟨S768x7168, .bf16⟩
  | 45 => ⟨S_, .bf16⟩
  | 46 => ⟨S_, .bf16⟩
  | 47 => ⟨S768x7168, .bf16⟩
  | 48 => ⟨S768x7168, .bf16⟩
  | 49 => ⟨S768x7168, .bf16⟩
  | 50 => ⟨S_, .bf16⟩
  | 51 => ⟨S_, .bf16⟩
  | 52 => ⟨S768x7168, .bf16⟩
  | 53 => ⟨S768x7168, .bf16⟩
  | 54 => ⟨S768x7168, .bf16⟩
  | 55 => ⟨S768x7168, .bf16⟩
  | 56 => ⟨S768x7168, .bf16⟩
  | 57 => ⟨S768x7168, .bf16⟩
  | 58 => ⟨S768x7168, .bf16⟩
  | 59 => ⟨S768x1x7168, .bf16⟩
  | 60 => ⟨S_, .i32⟩
  | 61 => ⟨S768x7168, .i32⟩
  | 62 => ⟨S768x7168, .i32⟩
  | 63 => ⟨S_, .i32⟩
  | 64 => ⟨S768x7168, .i32⟩
  | 65 => ⟨S768x7168, .i32⟩
  | 66 => ⟨S_, .i32⟩
  | 67 => ⟨S768x7168, .i32⟩
  | 68 => ⟨S768x7168, .i1⟩
  | 69 => ⟨S_, .i32⟩
  | 70 => ⟨S768x7168, .i32⟩
  | 71 => ⟨S768x7168, .i32⟩
  | 72 => ⟨S_, .i32⟩
  | 73 => ⟨S768x7168, .i32⟩
  | 74 => ⟨S768x7168, .i1⟩
  | 75 => ⟨S_, .i32⟩
  | 76 => ⟨S768x7168, .i32⟩
  | 77 => ⟨S768x7168, .i32⟩
  | 78 => ⟨S_, .i32⟩
  | 79 => ⟨S768x7168, .i32⟩
  | 80 => ⟨S768x7168, .i1⟩
  | 81 => ⟨S_, .i32⟩
  | 82 => ⟨S768x7168, .i32⟩
  | 83 => ⟨S768x7168, .i32⟩
  | 84 => ⟨S_, .i32⟩
  | 85 => ⟨S768x7168, .i32⟩
  | 86 => ⟨S768x7168, .i1⟩
  | 87 => ⟨S_, .bf16⟩
  | 88 => ⟨S_, .bf16⟩
  | 89 => ⟨S768x7168, .bf16⟩
  | 90 => ⟨S768x7168, .bf16⟩
  | 91 => ⟨S768x7168, .bf16⟩
  | 92 => ⟨S_, .bf16⟩
  | 93 => ⟨S_, .bf16⟩
  | 94 => ⟨S768x7168, .bf16⟩
  | 95 => ⟨S768x7168, .bf16⟩
  | 96 => ⟨S768x7168, .bf16⟩
  | 97 => ⟨S768x7168, .bf16⟩
  | 98 => ⟨S_, .bf16⟩
  | 99 => ⟨S_, .bf16⟩
  | 100 => ⟨S768x7168, .bf16⟩
  | 101 => ⟨S768x7168, .bf16⟩
  | 102 => ⟨S768x7168, .bf16⟩
  | 103 => ⟨S_, .bf16⟩
  | 104 => ⟨S_, .bf16⟩
  | 105 => ⟨S768x7168, .bf16⟩
  | 106 => ⟨S768x7168, .bf16⟩
  | 107 => ⟨S768x7168, .bf16⟩
  | 108 => ⟨S768x7168, .bf16⟩
  | 109 => ⟨S768x7168, .bf16⟩
  | 110 => ⟨S768x7168, .bf16⟩
  | 111 => ⟨S768x7168, .bf16⟩
  | 112 => ⟨S768x1x7168, .bf16⟩
  | 113 => ⟨S768x2x7168, .bf16⟩
  | 114 => ⟨S48x32x7168, .bf16⟩
  | 115 => ⟨S48x7168, .i32⟩
  | 116 => ⟨S_, .i32⟩
  | 117 => ⟨S48x7168, .i32⟩
  | 118 => ⟨S48x7168, .i32⟩
  | 119 => ⟨S48x7168, .f32⟩
  | 120 => ⟨S_, .f32⟩
  | 121 => ⟨S48x7168, .f32⟩
  | 122 => ⟨S48x7168, .f32⟩
  | 123 => ⟨S48x7168, .bf16⟩
  | 124 => ⟨S48x1x7168, .bf16⟩
  | 125 => ⟨S48x32x7168, .bf16⟩
  | 126 => ⟨S48x32x7168, .bf16⟩
  | 127 => ⟨S1536x7168, .bf16⟩
  | _ => ⟨S4x384x7168, .bf16⟩

abbrev hbmTy0_2 (i : Nat) : BufTy := match i % 128 with
  | 0 => ⟨S2048x7168, .f32⟩
  | 1 => ⟨S4x12x7168, .i8⟩
  | _ => ⟨S4x384x7168, .bf16⟩

abbrev hbmTy (i : Nat) : BufTy := match i / 128 with
  | 0 => hbmTy0_0 i
  | 1 => hbmTy0_1 i
  | 2 => hbmTy0_2 i
  | _ => ⟨S4x384x7168, .bf16⟩

abbrev bufTy : (tb : Table) → Fin (tcTables nBuf tb) → BufTy
  | .hbm, ⟨i, _⟩ => hbmTy i
  | _, _ => ⟨S4x384x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_c_6 : Ref sig .tc := ⟨.hbm, 46, rfl⟩
abbrev main_call0_v0 : Ref sig .tc := ⟨.hbm, 47, rfl⟩
abbrev main_call0_v1 : Ref sig .tc := ⟨.hbm, 48, rfl⟩
abbrev main_v35 : Ref sig .tc := ⟨.hbm, 49, rfl⟩
abbrev main_c_7 : Ref sig .tc := ⟨.hbm, 50, rfl⟩
abbrev main_v36 : Ref sig .tc := ⟨.hbm, 51, rfl⟩
abbrev main_v37 : Ref sig .tc := ⟨.hbm, 52, rfl⟩
abbrev main_c_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_cst_15 : Ref sig .tc := ⟨.hbm, 79, rfl⟩
abbrev main_call1_v0 : Ref sig .tc := ⟨.hbm, 80, rfl⟩
abbrev main_call1_v1 : Ref sig .tc := ⟨.hbm, 81, rfl⟩
abbrev main_v57 : Ref sig .tc := ⟨.hbm, 82, rfl⟩
abbrev main_cst_16 : Ref sig .tc := ⟨.hbm, 83, rfl⟩
abbrev main_call2_v0 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_17 : Ref sig .tc := ⟨.hbm, 91, rfl⟩
abbrev main_v64 : Ref sig .tc := ⟨.hbm, 92, rfl⟩
abbrev main_v65 : Ref sig .tc := ⟨.hbm, 93, rfl⟩
abbrev main_cst_18 : Ref sig .tc := ⟨.hbm, 94, rfl⟩
abbrev main_v66 : Ref sig .tc := ⟨.hbm, 95, rfl⟩
abbrev main_v67 : Ref sig .tc := ⟨.hbm, 96, rfl⟩
abbrev main_cst_19 : Ref sig .tc := ⟨.hbm, 97, rfl⟩
abbrev main_v68 : Ref sig .tc := ⟨.hbm, 98, rfl⟩
abbrev main_v69 : Ref sig .tc := ⟨.hbm, 99, rfl⟩
abbrev main_cst_20 : Ref sig .tc := ⟨.hbm, 100, rfl⟩
abbrev main_v70 : Ref sig .tc := ⟨.hbm, 101, rfl⟩
abbrev main_v71 : Ref sig .tc := ⟨.hbm, 102, rfl⟩
abbrev main_cst_21 : Ref sig .tc := ⟨.hbm, 103, rfl⟩
abbrev main_v72 : Ref sig .tc := ⟨.hbm, 104, rfl⟩
abbrev main_v73 : Ref sig .tc := ⟨.hbm, 105, rfl⟩
abbrev main_cst_22 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_23 : Ref sig .tc := ⟨.hbm, 112, rfl⟩
abbrev main_v79 : Ref sig .tc := ⟨.hbm, 113, rfl⟩
abbrev main_v80 : Ref sig .tc := ⟨.hbm, 114, rfl⟩
abbrev main_cst_24 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_25 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_26 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_c_27 : Ref sig .tc := ⟨.hbm, 135, rfl⟩
abbrev main_v98 : Ref sig .tc := ⟨.hbm, 136, rfl⟩
abbrev main_v99 : Ref sig .tc := ⟨.hbm, 137, rfl⟩
abbrev main_c_28 : Ref sig .tc := ⟨.hbm, 138, rfl⟩
abbrev main_v100 : Ref sig .tc := ⟨.hbm, 139, rfl⟩
abbrev main_v101 : Ref sig .tc := ⟨.hbm, 140, rfl⟩
abbrev main_c_29 : Ref sig .tc := ⟨.hbm, 141, rfl⟩
abbrev main_v102 : Ref sig .tc := ⟨.hbm, 142, rfl⟩
abbrev main_v103 : Ref sig .tc := ⟨.hbm, 143, rfl⟩
abbrev main_c_30 : Ref sig .tc := ⟨.hbm, 144, rfl⟩
abbrev main_v104 : Ref sig .tc := ⟨.hbm, 145, rfl⟩
abbrev main_v105 : Ref sig .tc := ⟨.hbm, 146, rfl⟩
abbrev main_c_31 : Ref sig .tc := ⟨.hbm, 147, rfl⟩
abbrev main_v106 : Ref sig .tc := ⟨.hbm, 148, rfl⟩
abbrev main_v107 : Ref sig .tc := ⟨.hbm, 149, rfl⟩
abbrev main_c_32 : Ref sig .tc := ⟨.hbm, 150, rfl⟩
abbrev main_v108 : Ref sig .tc := ⟨.hbm, 151, rfl⟩
abbrev main_v109 : Ref sig .tc := ⟨.hbm, 152, rfl⟩
abbrev main_c_33 : Ref sig .tc := ⟨.hbm, 153, rfl⟩
abbrev main_v110 : Ref sig .tc := ⟨.hbm, 154, rfl⟩
abbrev main_v111 : Ref sig .tc := ⟨.hbm, 155, rfl⟩
abbrev main_c_34 : Ref sig .tc := ⟨.hbm, 156, rfl⟩
abbrev main_v112 : Ref sig .tc := ⟨.hbm, 157, rfl⟩
abbrev main_v113 : Ref sig .tc := ⟨.hbm, 158, rfl⟩
abbrev main_c_35 : Ref sig .tc := ⟨.hbm, 159, rfl⟩
abbrev main_v114 : Ref sig .tc := ⟨.hbm, 160, rfl⟩
abbrev main_v115 : Ref sig .tc := ⟨.hbm, 161, rfl⟩
abbrev main_cst_36 : Ref sig .tc := ⟨.hbm, 162, rfl⟩
abbrev main_cst_37 : Ref sig .tc := ⟨.hbm, 163, rfl⟩
abbrev main_call6_v0 : Ref sig .tc := ⟨.hbm, 164, rfl⟩
abbrev main_call6_v1 : Ref sig .tc := ⟨.hbm, 165, rfl⟩
abbrev main_v116 : Ref sig .tc := ⟨.hbm, 166, rfl⟩
abbrev main_cst_38 : Ref sig .tc := ⟨.hbm, 167, rfl⟩
abbrev main_cst_39 : Ref sig .tc := ⟨.hbm, 168, rfl⟩
abbrev main_call7_v0 : Ref sig .tc := ⟨.hbm, 169, rfl⟩
abbrev main_call7_v1 : Ref sig .tc := ⟨.hbm, 170, rfl⟩
abbrev main_v117 : Ref sig .tc := ⟨.hbm, 171, rfl⟩
abbrev main_v118 : Ref sig .tc := ⟨.hbm, 172, rfl⟩
abbrev main_cst_40 : Ref sig .tc := ⟨.hbm, 173, rfl⟩
abbrev main_cst_41 : Ref sig .tc := ⟨.hbm, 174, rfl⟩
abbrev main_call9_v0 : Ref sig .tc := ⟨.hbm, 175, rfl⟩
abbrev main_call9_v1 : Ref sig .tc := ⟨.hbm, 176, rfl⟩
abbrev main_v119 : Ref sig .tc := ⟨.hbm, 177, rfl⟩
abbrev main_cst_42 : Ref sig .tc := ⟨.hbm, 178, rfl⟩
abbrev main_cst_43 : Ref sig .tc := ⟨.hbm, 179, rfl⟩
abbrev main_call10_v0 : Ref sig .tc := ⟨.hbm, 180, rfl⟩
abbrev main_call10_v1 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_c_44 : Ref sig .tc := ⟨.hbm, 188, rfl⟩
abbrev main_v126 : Ref sig .tc := ⟨.hbm, 189, rfl⟩
abbrev main_v127 : Ref sig .tc := ⟨.hbm, 190, rfl⟩
abbrev main_c_45 : Ref sig .tc := ⟨.hbm, 191, rfl⟩
abbrev main_v128 : Ref sig .tc := ⟨.hbm, 192, rfl⟩
abbrev main_v129 : Ref sig .tc := ⟨.hbm, 193, rfl⟩
abbrev main_c_46 : Ref sig .tc := ⟨.hbm, 194, rfl⟩
abbrev main_v130 : Ref sig .tc := ⟨.hbm, 195, rfl⟩
abbrev main_v131 : Ref sig .tc := ⟨.hbm, 196, rfl⟩
abbrev main_c_47 : Ref sig .tc := ⟨.hbm, 197, rfl⟩
abbrev main_v132 : Ref sig .tc := ⟨.hbm, 198, rfl⟩
abbrev main_v133 : Ref sig .tc := ⟨.hbm, 199, rfl⟩
abbrev main_c_48 : Ref sig .tc := ⟨.hbm, 200, rfl⟩
abbrev main_v134 : Ref sig .tc := ⟨.hbm, 201, rfl⟩
abbrev main_v135 : Ref sig .tc := ⟨.hbm, 202, rfl⟩
abbrev main_c_49 : Ref sig .tc := ⟨.hbm, 203, rfl⟩
abbrev main_v136 : Ref sig .tc := ⟨.hbm, 204, rfl⟩
abbrev main_v137 : Ref sig .tc := ⟨.hbm, 205, rfl⟩
abbrev main_c_50 : Ref sig .tc := ⟨.hbm, 206, rfl⟩
abbrev main_v138 : Ref sig .tc := ⟨.hbm, 207, rfl⟩
abbrev main_v139 : Ref sig .tc := ⟨.hbm, 208, rfl⟩
abbrev main_c_51 : Ref sig .tc := ⟨.hbm, 209, rfl⟩
abbrev main_v140 : Ref sig .tc := ⟨.hbm, 210, rfl⟩
abbrev main_v141 : Ref sig .tc := ⟨.hbm, 211, rfl⟩
abbrev main_c_52 : Ref sig .tc := ⟨.hbm, 212, rfl⟩
abbrev main_v142 : Ref sig .tc := ⟨.hbm, 213, rfl⟩
abbrev main_v143 : Ref sig .tc := ⟨.hbm, 214, rfl⟩
abbrev main_cst_53 : Ref sig .tc := ⟨.hbm, 215, rfl⟩
abbrev main_cst_54 : Ref sig .tc := ⟨.hbm, 216, rfl⟩
abbrev main_call14_v0 : Ref sig .tc := ⟨.hbm, 217, rfl⟩
abbrev main_call14_v1 : Ref sig .tc := ⟨.hbm, 218, rfl⟩
abbrev main_v144 : Ref sig .tc := ⟨.hbm, 219, rfl⟩
abbrev main_cst_55 : Ref sig .tc := ⟨.hbm, 220, rfl⟩
abbrev main_cst_56 : Ref sig .tc := ⟨.hbm, 221, rfl⟩
abbrev main_call15_v0 : Ref sig .tc := ⟨.hbm, 222, rfl⟩
abbrev main_call15_v1 : Ref sig .tc := ⟨.hbm, 223, rfl⟩
abbrev main_v145 : Ref sig .tc := ⟨.hbm, 224, rfl⟩
abbrev main_v146 : Ref sig .tc := ⟨.hbm, 225, rfl⟩
abbrev main_cst_57 : Ref sig .tc := ⟨.hbm, 226, rfl⟩
abbrev main_cst_58 : Ref sig .tc := ⟨.hbm, 227, rfl⟩
abbrev main_call17_v0 : Ref sig .tc := ⟨.hbm, 228, rfl⟩
abbrev main_call17_v1 : Ref sig .tc := ⟨.hbm, 229, rfl⟩
abbrev main_v147 : Ref sig .tc := ⟨.hbm, 230, rfl⟩
abbrev main_cst_59 : Ref sig .tc := ⟨.hbm, 231, rfl⟩
abbrev main_cst_60 : Ref sig .tc := ⟨.hbm, 232, rfl⟩
abbrev main_call18_v0 : Ref sig .tc := ⟨.hbm, 233, rfl⟩
abbrev main_call18_v1 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_c_61 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_62 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩

abbrev nD : Nat := 1
abbrev τ : Topo := Topo.v7x

variable {F : FTy → Type} [FloatOps F]
-- ==== Dy.lean ====
abbrev S4x384x2048 : Shape := ⟨3, ![4, 384, 2048]⟩
abbrev S16 : Shape := ⟨1, ![16]⟩
abbrev S1536x2048 : Shape := ⟨2, ![1536, 2048]⟩
abbrev S768x2048 : Shape := ⟨2, ![768, 2048]⟩
abbrev S4x12x2048 : Shape := ⟨3, ![4, 12, 2048]⟩
abbrev S2048x1536 : Shape := ⟨2, ![2048, 1536]⟩
abbrev S1536x256 : Shape := ⟨2, ![1536, 256]⟩
abbrev S768x256 : Shape := ⟨2, ![768, 256]⟩
abbrev S4x12x256 : Shape := ⟨3, ![4, 12, 256]⟩
abbrev S256x1536 : Shape := ⟨2, ![256, 1536]⟩
abbrev S256x256 : Shape := ⟨2, ![256, 256]⟩
abbrev S64x256 : Shape := ⟨2, ![64, 256]⟩
abbrev S8x256 : Shape := ⟨2, ![8, 256]⟩
abbrev S48x256 : Shape := ⟨2, ![48, 256]⟩
abbrev S1x256 : Shape := ⟨2, ![1, 256]⟩
abbrev S1 : Shape := ⟨1, ![1]⟩
abbrev S8x32x256 : Shape := ⟨3, ![8, 32, 256]⟩
abbrev S32x256 : Shape := ⟨2, ![32, 256]⟩
abbrev S32x8x256 : Shape := ⟨3, ![32, 8, 256]⟩
abbrev S32x1x256 : Shape := ⟨3, ![32, 1, 256]⟩
abbrev S128x256 : Shape := ⟨2, ![128, 256]⟩
abbrev S16x256 : Shape := ⟨2, ![16, 256]⟩
abbrev S12x256 : Shape := ⟨2, ![12, 256]⟩
abbrev S1x12x256 : Shape := ⟨3, ![1, 12, 256]⟩

abbrev nBuf : Space → Nat
  | .hbm => 8
  | .vmem => 15
  | .smem => 1
  | _ => 0

abbrev bufTy : (tb : Table) → Fin (tcTables nBuf tb) → BufTy
  | .hbm, ⟨0, _⟩ => ⟨S4x384x2048, .bf16⟩
  | .hbm, ⟨1, _⟩ => ⟨S16, .f32⟩
  | .hbm, ⟨2, _⟩ => ⟨S4x384x2048, .i8⟩
  | .hbm, ⟨3, _⟩ => ⟨S1536x2048, .bf16⟩
  | .hbm, ⟨4, _⟩ => ⟨S1536x2048, .i8⟩
  | .hbm, ⟨5, _⟩ => ⟨S768x2048, .i8⟩
  | .hbm, ⟨6, _⟩ => ⟨S4x12x2048, .i8⟩
  | .hbm, ⟨7, _⟩ => ⟨S2048x1536, .bf16⟩
  | .local _ .vmem, ⟨0, _⟩ => ⟨S1536x256, .bf16⟩
  | .local _ .vmem, ⟨1, _⟩ => ⟨S1536x256, .bf16⟩
  | .local _ .vmem, ⟨2, _⟩ => ⟨S1536x256, .i8⟩
  | .local _ .vmem, ⟨3, _⟩ => ⟨S1536x256, .i8⟩
  | .local _ .vmem, ⟨4, _⟩ => ⟨S768x256, .i8⟩
  | .local _ .vmem, ⟨5, _⟩ => ⟨S768x256, .i8⟩
  | .local _ .vmem, ⟨6, _⟩ => ⟨S4x12x256, .i8⟩
  | .local _ .vmem, ⟨7, _⟩ => ⟨S4x12x256, .i8⟩
  | .local _ .vmem, ⟨8, _⟩ => ⟨S256x1536, .bf16⟩
  | .local _ .vmem, ⟨9, _⟩ => ⟨S256x1536, .bf16⟩
  | .local _ .vmem, ⟨10, _⟩ => ⟨S256x256, .bf16⟩
  | .local _ .vmem, ⟨11, _⟩ => ⟨S64x256, .f32⟩
  | .local _ .vmem, ⟨12, _⟩ => ⟨S8x256, .f32⟩
  | .local _ .vmem, ⟨13, _⟩ => ⟨S8x256, .i32⟩
  | .local _ .vmem, ⟨14, _⟩ => ⟨S48x256, .i32⟩
  | .local _ .smem, ⟨0, _⟩ => ⟨S16, .f32⟩
  | _, _ => ⟨S4x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1536x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x12x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefDyIdeal.lean ====
abbrev S4x384x2048 : Shape := ⟨3, ![4, 384, 2048]⟩
abbrev S16 : Shape := ⟨1, ![16]⟩
abbrev S16x16 : Shape := ⟨2, ![16, 16]⟩
abbrev S_ : Shape := ⟨0, ![]⟩
abbrev S1x16 : Shape := ⟨2, ![1, 16]⟩
abbrev S1536x2048 : Shape := ⟨2, ![1536, 2048]⟩
abbrev S96x16x2048 : Shape := ⟨3, ![96, 16, 2048]⟩
abbrev S96x2048x16 : Shape := ⟨3, ![96, 2048, 16]⟩
abbrev S48x32x2048 : Shape := ⟨3, ![48, 32, 2048]⟩
abbrev S48x2048 : Shape := ⟨2, ![48, 2048]⟩
abbrev S48x1x2048 : Shape := ⟨3, ![48, 1, 2048]⟩
abbrev S768x2x2048 : Shape := ⟨3, ![768, 2, 2048]⟩
abbrev S768x1x2048 : Shape := ⟨3, ![768, 1, 2048]⟩
abbrev S768x2048 : Shape := ⟨2, ![768, 2048]⟩
abbrev S4x12x2048 : Shape := ⟨3, ![4, 12, 2048]⟩
abbrev S2048x1536 : Shape := ⟨2, ![2048, 1536]⟩

abbrev nBuf : Space → Nat
  | .hbm => 272
  | .vmem => 0
  | .smem => 0
  | _ => 0

abbrev hbmTy0_0 (i : Nat) : BufTy := match i % 128 with
  | 0 => ⟨S4x384x2048, .bf16⟩
  | 1 => ⟨S16, .f32⟩
  | 2 => ⟨S4x384x2048, .i8⟩
  | 3 => ⟨S16x16, .i32⟩
  | 4 => ⟨S16x16, .i32⟩
  | 5 => ⟨S16x16, .i32⟩
  | 6 => ⟨S16x16, .i32⟩
  | 7 => ⟨S_, .i32⟩
  | 8 => ⟨S16x16, .i32⟩
  | 9 => ⟨S16x16, .i32⟩
  | 10 => ⟨S_, .i32⟩
  | 11 => ⟨S16x16, .i32⟩
  | 12 => ⟨S16x16, .i32⟩
  | 13 => ⟨S_, .i32⟩
  | 14 => ⟨S16x16, .i32⟩
  | 15 => ⟨S16x16, .i32⟩
  | 16 => ⟨S16x16, .f32⟩
  | 17 => ⟨S1x16, .f32⟩
  | 18 => ⟨S16x16, .f32⟩
  | 19 => ⟨S16x16, .f32⟩
  | 20 => ⟨S_, .f32⟩
  | 21 => ⟨S16x16, .f32⟩
  | 22 => ⟨S16x16, .f32⟩
  | 23 => ⟨S1536x2048, .bf16⟩
  | 24 => ⟨S1536x2048, .f32⟩
  | 25 => ⟨S96x16x2048, .f32⟩
  | 26 => ⟨S96x2048x16, .f32⟩
  | 27 => ⟨S96x16x2048, .f32⟩
  | 28 => ⟨S1536x2048, .f32⟩
  | 29 => ⟨S1536x2048, .i8⟩
  | 30 => ⟨S48x32x2048, .f32⟩
  | 31 => ⟨S48x32x2048, .f32⟩
  | 32 => ⟨S_, .f32⟩
  | 33 => ⟨S48x2048, .f32⟩
  | 34 => ⟨S48x2048, .f32⟩
  | 35 => ⟨S_, .f32⟩
  | 36 => ⟨S48x2048, .f32⟩
  | 37 => ⟨S48x2048, .f32⟩
  | 38 => ⟨S48x2048, .f32⟩
  | 39 => ⟨S48x2048, .f32⟩
  | 40 => ⟨S48x2048, .i32⟩
  | 41 => ⟨S_, .i32⟩
  | 42 => ⟨S48x2048, .i32⟩
  | 43 => ⟨S48x2048, .i32⟩
  | 44 => ⟨S_, .f32⟩
  | 45 => ⟨S48x2048, .f32⟩
  | 46 => ⟨S48x2048, .i1⟩
  | 47 => ⟨S_, .i32⟩
  | 48 => ⟨S_, .i32⟩
  | 49 => ⟨S48x2048, .i32⟩
  | 50 => ⟨S48x2048, .i32⟩
  | 51 => ⟨S_, .i32⟩
  | 52 => ⟨S48x2048, .i32⟩
  | 53 => ⟨S48x2048, .i32⟩
  | 54 => ⟨S_, .i32⟩
  | 55 => ⟨S48x2048, .i32⟩
  | 56 => ⟨S48x2048, .i32⟩
  | 57 => ⟨S48x2048, .i8⟩
  | 58 => ⟨S_, .i32⟩
  | 59 => ⟨S48x2048, .i32⟩
  | 60 => ⟨S48x2048, .i32⟩
  | 61 => ⟨S48x2048, .f32⟩
  | 62 => ⟨S_, .f32⟩
  | 63 => ⟨S48x2048, .f32⟩
  | 64 => ⟨S48x2048, .f32⟩
  | 65 => ⟨S48x1x2048, .f32⟩
  | 66 => ⟨S48x32x2048, .f32⟩
  | 67 => ⟨S48x32x2048, .f32⟩
  | 68 => ⟨S1536x2048, .f32⟩
  | 69 => ⟨S1536x2048, .f32⟩
  | 70 => ⟨S_, .f32⟩
  | 71 => ⟨S1536x2048, .f32⟩
  | 72 => ⟨S1536x2048, .f32⟩
  | 73 => ⟨S_, .f32⟩
  | 74 => ⟨S1536x2048, .f32⟩
  | 75 => ⟨S1536x2048, .i1⟩
  | 76 => ⟨S_, .f32⟩
  | 77 => ⟨S1536x2048, .f32⟩
  | 78 => ⟨S1536x2048, .i1⟩
  | 79 => ⟨S_, .f32⟩
  | 80 => ⟨S_, .f32⟩
  | 81 => ⟨S1536x2048, .f32⟩
  | 82 => ⟨S1536x2048, .f32⟩
  | 83 => ⟨S1536x2048, .f32⟩
  | 84 => ⟨S_, .f32⟩
  | 85 => ⟨S1536x2048, .f32⟩
  | 86 => ⟨S1536x2048, .f32⟩
  | 87 => ⟨S1536x2048, .f32⟩
  | 88 => ⟨S1536x2048, .f32⟩
  | 89 => ⟨S1536x2048, .i32⟩
  | 90 => ⟨S1536x2048, .f32⟩
  | 91 => ⟨S_, .f32⟩
  | 92 => ⟨S1536x2048, .f32⟩
  | 93 => ⟨S1536x2048, .f32⟩
  | 94 => ⟨S_, .f32⟩
  | 95 => ⟨S1536x2048, .f32⟩
  | 96 => ⟨S1536x2048, .f32⟩
  | 97 => ⟨S1536x2048, .f32⟩
  | 98 => ⟨S1536x2048, .f32⟩
  | 99 => ⟨S1536x2048, .i1⟩
  | 100 => ⟨S1536x2048, .i32⟩
  | 101 => ⟨S1536x2048, .f32⟩
  | 102 => ⟨S1536x2048, .f32⟩
  | 103 => ⟨S1536x2048, .f32⟩
  | 104 => ⟨S1536x2048, .f32⟩
  | 105 => ⟨S_, .f32⟩
  | 106 => ⟨S1536x2048, .f32⟩
  | 107 => ⟨S1536x2048, .i1⟩
  | 108 => ⟨S_, .f32⟩
  | 109 => ⟨S1536x2048, .f32⟩
  | 110 => ⟨S1536x2048, .f32⟩
  | 111 => ⟨S_, .f32⟩
  | 112 => ⟨S1536x2048, .f32⟩
  | 113 => ⟨S1536x2048, .i1⟩
  | 114 => ⟨S_, .f32⟩
  | 115 => ⟨S1536x2048, .f32⟩
  | 116 => ⟨S1536x2048, .f32⟩
  | 117 => ⟨S_, .f32⟩
  | 118 => ⟨S1536x2048, .f32⟩
  | 119 => ⟨S1536x2048, .f32⟩
  | 120 => ⟨S_, .f32⟩
  | 121 => ⟨S1536x2048, .f32⟩
  | 122 => ⟨S1536x2048, .f32⟩
  | 123 => ⟨S1536x2048, .f32⟩
  | 124 => ⟨S1536x2048, .f32⟩
  | 125 => ⟨S1536x2048, .i32⟩
  | 126 => ⟨S_, .f32⟩
  | 127 => ⟨S1536x2048, .f32⟩
  | _ => ⟨S4x384x2048, .bf16⟩

abbrev hbmTy0_1 (i : Nat) : BufTy := match i % 128 with
  | 0 => ⟨S1536x2048, .i1⟩
  | 1 => ⟨S_, .f32⟩
  | 2 => ⟨S1536x2048, .f32⟩
  | 3 => ⟨S1536x2048, .i1⟩
  | 4 => ⟨S1536x2048, .i1⟩
  | 5 => ⟨S1536x2048, .i32⟩
  | 6 => ⟨S_, .i32⟩
  | 7 => ⟨S1536x2048, .i32⟩
  | 8 => ⟨S1536x2048, .i32⟩
  | 9 => ⟨S1536x2048, .i32⟩
  | 10 => ⟨S768x2x2048, .i32⟩
  | 11 => ⟨S768x1x2048, .i32⟩
  | 12 => ⟨S768x2048, .i32⟩
  | 13 => ⟨S768x1x2048, .i32⟩
  | 14 => ⟨S768x2048, .i32⟩
  | 15 => ⟨S_, .i32⟩
  | 16 => ⟨S768x2048, .i32⟩
  | 17 => ⟨S768x2048, .i32⟩
  | 18 => ⟨S768x2048, .i32⟩
  | 19 => ⟨S768x2048, .i8⟩
  | 20 => ⟨S768x2048, .i32⟩
  | 21 => ⟨S_, .i32⟩
  | 22 => ⟨S768x2048, .i32⟩
  | 23 => ⟨S768x2048, .i32⟩
  | 24 => ⟨S_, .i32⟩
  | 25 => ⟨S768x2048, .i32⟩
  | 26 => ⟨S768x2048, .i32⟩
  | 27 => ⟨S_, .i32⟩
  | 28 => ⟨S768x2048, .i32⟩
  | 29 => ⟨S768x2048, .i1⟩
  | 30 => ⟨S_, .i32⟩
  | 31 => ⟨S768x2048, .i32⟩
  | 32 => ⟨S768x2048, .i32⟩
  | 33 => ⟨S_, .i32⟩
  | 34 => ⟨S768x2048, .i32⟩
  | 35 => ⟨S768x2048, .i1⟩
  | 36 => ⟨S_, .i32⟩
  | 37 => ⟨S768x2048, .i32⟩
  | 38 => ⟨S768x2048, .i32⟩
  | 39 => ⟨S_, .i32⟩
  | 40 => ⟨S768x2048, .i32⟩
  | 41 => ⟨S768x2048, .i1⟩
  | 42 => ⟨S_, .i32⟩
  | 43 => ⟨S768x2048, .i32⟩
  | 44 => ⟨S768x2048, .i32⟩
  | 45 => ⟨S_, .i32⟩
  | 46 => ⟨S768x2048, .i32⟩
  | 47 => ⟨S768x2048, .i1⟩
  | 48 => ⟨S_, .bf16⟩
  | 49 => ⟨S_, .bf16⟩
  | 50 => ⟨S768x2048, .bf16⟩
  | 51 => ⟨S768x2048, .bf16⟩
  | 52 => ⟨S768x2048, .bf16⟩
  | 53 => ⟨S_, .bf16⟩
  | 54 => ⟨S_, .bf16⟩
  | 55 => ⟨S768x2048, .bf16⟩
  | 56 => ⟨S768x2048, .bf16⟩
  | 57 => ⟨S768x2048, .bf16⟩
  | 58 => ⟨S768x2048, .bf16⟩
  | 59 => ⟨S_, .bf16⟩
  | 60 => ⟨S_, .bf16⟩
  | 61 => ⟨S768x2048, .bf16⟩
  | 62 => ⟨S768x2048, .bf16⟩
  | 63 => ⟨S768x2048, .bf16⟩
  | 64 => ⟨S_, .bf16⟩
  | 65 => ⟨S_, .bf16⟩
  | 66 => ⟨S768x2048, .bf16⟩
  | 67 => ⟨S768x2048, .bf16⟩
  | 68 => ⟨S768x2048, .bf16⟩
  | 69 => ⟨S768x2048, .bf16⟩
  | 70 => ⟨S768x2048, .bf16⟩
  | 71 => ⟨S768x2048, .bf16⟩
  | 72 => ⟨S768x2048, .bf16⟩
  | 73 => ⟨S768x1x2048, .bf16⟩
  | 74 => ⟨S_, .i32⟩
  | 75 => ⟨S768x2048, .i32⟩
  | 76 => ⟨S768x2048, .i32⟩
  | 77 => ⟨S_, .i32⟩
  | 78 => ⟨S768x2048, .i32⟩
  | 79 => ⟨S768x2048, .i32⟩
  | 80 => ⟨S_, .i32⟩
  | 81 => ⟨S768x2048, .i32⟩
  | 82 => ⟨S768x2048, .i1⟩
  | 83 => ⟨S_, .i32⟩
  | 84 => ⟨S768x2048, .i32⟩
  | 85 => ⟨S768x2048, .i32⟩
  | 86 => ⟨S_, .i32⟩
  | 87 => ⟨S768x2048, .i32⟩
  | 88 => ⟨S768x2048, .i1⟩
  | 89 => ⟨S_, .i32⟩
  | 90 => ⟨S768x2048, .i32⟩
  | 91 => ⟨S768x2048, .i32⟩
  | 92 => ⟨S_, .i32⟩
  | 93 => ⟨S768x2048, .i32⟩
  | 94 => ⟨S768x2048, .i1⟩
  | 95 => ⟨S_, .i32⟩
  | 96 => ⟨S768x2048, .i32⟩
  | 97 => ⟨S768x2048, .i32⟩
  | 98 => ⟨S_, .i32⟩
  | 99 => ⟨S768x2048, .i32⟩
  | 100 => ⟨S768x2048, .i1⟩
  | 101 => ⟨S_, .bf16⟩
  | 102 => ⟨S_, .bf16⟩
  | 103 => ⟨S768x2048, .bf16⟩
  | 104 => ⟨S768x2048, .bf16⟩
  | 105 => ⟨S768x2048, .bf16⟩
  | 106 => ⟨S_, .bf16⟩
  | 107 => ⟨S_, .bf16⟩
  | 108 => ⟨S768x2048, .bf16⟩
  | 109 => ⟨S768x2048, .bf16⟩
  | 110 => ⟨S768x2048, .bf16⟩
  | 111 => ⟨S768x2048, .bf16⟩
  | 112 => ⟨S_, .bf16⟩
  | 113 => ⟨S_, .bf16⟩
  | 114 => ⟨S768x2048, .bf16⟩
  | 115 => ⟨S768x2048, .bf16⟩
  | 116 => ⟨S768x2048, .bf16⟩
  | 117 => ⟨S_, .bf16⟩
  | 118 => ⟨S_, .bf16⟩
  | 119 => ⟨S768x2048, .bf16⟩
  | 120 => ⟨S768x2048, .bf16⟩
  | 121 => ⟨S768x2048, .bf16⟩
  | 122 => ⟨S768x2048, .bf16⟩
  | 123 => ⟨S768x2048, .bf16⟩
  | 124 => ⟨S768x2048, .bf16⟩
  | 125 => ⟨S768x2048, .bf16⟩
  | 126 => ⟨S768x1x2048, .bf16⟩
  | 127 => ⟨S768x2x2048, .bf16⟩
  | _ => ⟨S4x384x2048, .bf16⟩

abbrev hbmTy0_2 (i : Nat) : BufTy := match i % 128 with
  | 0 => ⟨S48x32x2048, .bf16⟩
  | 1 => ⟨S48x2048, .i32⟩
  | 2 => ⟨S_, .i32⟩
  | 3 => ⟨S48x2048, .i32⟩
  | 4 => ⟨S48x2048, .i32⟩
  | 5 => ⟨S48x2048, .f32⟩
  | 6 => ⟨S_, .f32⟩
  | 7 => ⟨S48x2048, .f32⟩
  | 8 => ⟨S48x2048, .f32⟩
  | 9 => ⟨S48x2048, .bf16⟩
  | 10 => ⟨S48x1x2048, .bf16⟩
  | 11 => ⟨S48x32x2048, .bf16⟩
  | 12 => ⟨S48x32x2048, .bf16⟩
  | 13 => ⟨S1536x2048, .bf16⟩
  | 14 => ⟨S4x12x2048, .i8⟩
  | 15 => ⟨S2048x1536, .bf16⟩
  | _ => ⟨S4x384x2048, .bf16⟩

abbrev hbmTy (i : Nat) : BufTy := match i / 128 with
  | 0 => hbmTy0_0 i
  | 1 => hbmTy0_1 i
  | 2 => hbmTy0_2 i
  | _ => ⟨S4x384x2048, .bf16⟩

abbrev bufTy : (tb : Table) → Fin (tcTables nBuf tb) → BufTy
  | .hbm, ⟨i, _⟩ => hbmTy i
  | _, _ => ⟨S4x384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_c_6 : Ref sig .tc := ⟨.hbm, 47, rfl⟩
abbrev main_call0_v0 : Ref sig .tc := ⟨.hbm, 48, rfl⟩
abbrev main_call0_v1 : Ref sig .tc := ⟨.hbm, 49, rfl⟩
abbrev main_v36 : Ref sig .tc := ⟨.hbm, 50, rfl⟩
abbrev main_c_7 : Ref sig .tc := ⟨.hbm, 51, rfl⟩
abbrev main_v37 : Ref sig .tc := ⟨.hbm, 52, rfl⟩
abbrev main_v38 : Ref sig .tc := ⟨.hbm, 53, rfl⟩
abbrev main_c_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_cst_15 : Ref sig .tc := ⟨.hbm, 80, rfl⟩
abbrev main_call1_v0 : Ref sig .tc := ⟨.hbm, 81, rfl⟩
abbrev main_call1_v1 : Ref sig .tc := ⟨.hbm, 82, rfl⟩
abbrev main_v58 : Ref sig .tc := ⟨.hbm, 83, rfl⟩
abbrev main_cst_16 : Ref sig .tc := ⟨.hbm, 84, rfl⟩
abbrev main_call2_v0 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_17 : Ref sig .tc := ⟨.hbm, 91, rfl⟩
abbrev main_v64 : Ref sig .tc := ⟨.hbm, 92, rfl⟩
abbrev main_v65 : Ref sig .tc := ⟨.hbm, 93, rfl⟩
abbrev main_cst_18 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_19 : Ref sig .tc := ⟨.hbm, 105, rfl⟩
abbrev main_v76 : Ref sig .tc := ⟨.hbm, 106, rfl⟩
abbrev main_v77 : Ref sig .tc := ⟨.hbm, 107, rfl⟩
abbrev main_cst_20 : Ref sig .tc := ⟨.hbm, 108, rfl⟩
abbrev main_v78 : Ref sig .tc := ⟨.hbm, 109, rfl⟩
abbrev main_v79 : Ref sig .tc := ⟨.hbm, 110, rfl⟩
abbrev main_cst_21 : Ref sig .tc := ⟨.hbm, 111, rfl⟩
abbrev main_v80 : Ref sig .tc := ⟨.hbm, 112, rfl⟩
abbrev main_v81 : Ref sig .tc := ⟨.hbm, 113, rfl⟩
abbrev main_cst_22 : Ref sig .tc := ⟨.hbm, 114, rfl⟩
abbrev main_v82 : Ref sig .tc := ⟨.hbm, 115, rfl⟩
abbrev main_v83 : Ref sig .tc := ⟨.hbm, 116, rfl⟩
abbrev main_cst_23 : Ref sig .tc := ⟨.hbm, 117, rfl⟩
abbrev main_v84 : Ref sig .tc := ⟨.hbm, 118, rfl⟩
abbrev main_v85 : Ref sig .tc := ⟨.hbm, 119, rfl⟩
abbrev main_cst_24 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_25 : Ref sig .tc := ⟨.hbm, 126, rfl⟩
abbrev main_v91 : Ref sig .tc := ⟨.hbm, 127, rfl⟩
abbrev main_v92 : Ref sig .tc := ⟨.hbm, 128, rfl⟩
abbrev main_cst_26 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_c_27 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_c_28 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_c_29 : Ref sig .tc := ⟨.hbm, 149, rfl⟩
abbrev main_v110 : Ref sig .tc := ⟨.hbm, 150, rfl⟩
abbrev main_v111 : Ref sig .tc := ⟨.hbm, 151, rfl⟩
abbrev main_c_30 : Ref sig .tc := ⟨.hbm, 152, rfl⟩
abbrev main_v112 : Ref sig .tc := ⟨.hbm, 153, rfl⟩
abbrev main_v113 : Ref sig .tc := ⟨.hbm, 154, rfl⟩
abbrev main_c_31 : Ref sig .tc := ⟨.hbm, 155, rfl⟩
abbrev main_v114 : Ref sig .tc := ⟨.hbm, 156, rfl⟩
abbrev main_v115 : Ref sig .tc := ⟨.hbm, 157, rfl⟩
abbrev main_c_32 : Ref sig .tc := ⟨.hbm, 158, rfl⟩
abbrev main_v116 : Ref sig .tc := ⟨.hbm, 159, rfl⟩
abbrev main_v117 : Ref sig .tc := ⟨.hbm, 160, rfl⟩
abbrev main_c_33 : Ref sig .tc := ⟨.hbm, 161, rfl⟩
abbrev main_v118 : Ref sig .tc := ⟨.hbm, 162, rfl⟩
abbrev main_v119 : Ref sig .tc := ⟨.hbm, 163, rfl⟩
abbrev main_c_34 : Ref sig .tc := ⟨.hbm, 164, rfl⟩
abbrev main_v120 : Ref sig .tc := ⟨.hbm, 165, rfl⟩
abbrev main_v121 : Ref sig .tc := ⟨.hbm, 166, rfl⟩
abbrev main_c_35 : Ref sig .tc := ⟨.hbm, 167, rfl⟩
abbrev main_v122 : Ref sig .tc := ⟨.hbm, 168, rfl⟩
abbrev main_v123 : Ref sig .tc := ⟨.hbm, 169, rfl⟩
abbrev main_c_36 : Ref sig .tc := ⟨.hbm, 170, rfl⟩
abbrev main_v124 : Ref sig .tc := ⟨.hbm, 171, rfl⟩
abbrev main_v125 : Ref sig .tc := ⟨.hbm, 172, rfl⟩
abbrev main_c_37 : Ref sig .tc := ⟨.hbm, 173, rfl⟩
abbrev main_v126 : Ref sig .tc := ⟨.hbm, 174, rfl⟩
abbrev main_v127 : Ref sig .tc := ⟨.hbm, 175, rfl⟩
abbrev main_cst_38 : Ref sig .tc := ⟨.hbm, 176, rfl⟩
abbrev main_cst_39 : Ref sig .tc := ⟨.hbm, 177, rfl⟩
abbrev main_call5_v0 : Ref sig .tc := ⟨.hbm, 178, rfl⟩
abbrev main_call5_v1 : Ref sig .tc := ⟨.hbm, 179, rfl⟩
abbrev main_v128 : Ref sig .tc := ⟨.hbm, 180, rfl⟩
abbrev main_cst_40 : Ref sig .tc := ⟨.hbm, 181, rfl⟩
abbrev main_cst_41 : Ref sig .tc := ⟨.hbm, 182, rfl⟩
abbrev main_call6_v0 : Ref sig .tc := ⟨.hbm, 183, rfl⟩
abbrev main_call6_v1 : Ref sig .tc := ⟨.hbm, 184, rfl⟩
abbrev main_v129 : Ref sig .tc := ⟨.hbm, 185, rfl⟩
abbrev main_v130 : Ref sig .tc := ⟨.hbm, 186, rfl⟩
abbrev main_cst_42 : Ref sig .tc := ⟨.hbm, 187, rfl⟩
abbrev main_cst_43 : Ref sig .tc := ⟨.hbm, 188, rfl⟩
abbrev main_call8_v0 : Ref sig .tc := ⟨.hbm, 189, rfl⟩
abbrev main_call8_v1 : Ref sig .tc := ⟨.hbm, 190, rfl⟩
abbrev main_v131 : Ref sig .tc := ⟨.hbm, 191, rfl⟩
abbrev main_cst_44 : Ref sig .tc := ⟨.hbm, 192, rfl⟩
abbrev main_cst_45 : Ref sig .tc := ⟨.hbm, 193, rfl⟩
abbrev main_call9_v0 : Ref sig .tc := ⟨.hbm, 194, rfl⟩
abbrev main_call9_v1 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_c_46 : Ref sig .tc := ⟨.hbm, 202, rfl⟩
abbrev main_v138 : Ref sig .tc := ⟨.hbm, 203, rfl⟩
abbrev main_v139 : Ref sig .tc := ⟨.hbm, 204, rfl⟩
abbrev main_c_47 : Ref sig .tc := ⟨.hbm, 205, rfl⟩
abbrev main_v140 : Ref sig .tc := ⟨.hbm, 206, rfl⟩
abbrev main_v141 : Ref sig .tc := ⟨.hbm, 207, rfl⟩
abbrev main_c_48 : Ref sig .tc := ⟨.hbm, 208, rfl⟩
abbrev main_v142 : Ref sig .tc := ⟨.hbm, 209, rfl⟩
abbrev main_v143 : Ref sig .tc := ⟨.hbm, 210, rfl⟩
abbrev main_c_49 : Ref sig .tc := ⟨.hbm, 211, rfl⟩
abbrev main_v144 : Ref sig .tc := ⟨.hbm, 212, rfl⟩
abbrev main_v145 : Ref sig .tc := ⟨.hbm, 213, rfl⟩
abbrev main_c_50 : Ref sig .tc := ⟨.hbm, 214, rfl⟩
abbrev main_v146 : Ref sig .tc := ⟨.hbm, 215, rfl⟩
abbrev main_v147 : Ref sig .tc := ⟨.hbm, 216, rfl⟩
abbrev main_c_51 : Ref sig .tc := ⟨.hbm, 217, rfl⟩
abbrev main_v148 : Ref sig .tc := ⟨.hbm, 218, rfl⟩
abbrev main_v149 : Ref sig .tc := ⟨.hbm, 219, rfl⟩
abbrev main_c_52 : Ref sig .tc := ⟨.hbm, 220, rfl⟩
abbrev main_v150 : Ref sig .tc := ⟨.hbm, 221, rfl⟩
abbrev main_v151 : Ref sig .tc := ⟨.hbm, 222, rfl⟩
abbrev main_c_53 : Ref sig .tc := ⟨.hbm, 223, rfl⟩
abbrev main_v152 : Ref sig .tc := ⟨.hbm, 224, rfl⟩
abbrev main_v153 : Ref sig .tc := ⟨.hbm, 225, rfl⟩
abbrev main_c_54 : Ref sig .tc := ⟨.hbm, 226, rfl⟩
abbrev main_v154 : Ref sig .tc := ⟨.hbm, 227, rfl⟩
abbrev main_v155 : Ref sig .tc := ⟨.hbm, 228, rfl⟩
abbrev main_cst_55 : Ref sig .tc := ⟨.hbm, 229, rfl⟩
abbrev main_cst_56 : Ref sig .tc := ⟨.hbm, 230, rfl⟩
abbrev main_call13_v0 : Ref sig .tc := ⟨.hbm, 231, rfl⟩
abbrev main_call13_v1 : Ref sig .tc := ⟨.hbm, 232, rfl⟩
abbrev main_v156 : Ref sig .tc := ⟨.hbm, 233, rfl⟩
abbrev main_cst_57 : Ref sig .tc := ⟨.hbm, 234, rfl⟩
abbrev main_cst_58 : Ref sig .tc := ⟨.hbm, 235, rfl⟩
abbrev main_call14_v0 : Ref sig .tc := ⟨.hbm, 236, rfl⟩
abbrev main_call14_v1 : Ref sig .tc := ⟨.hbm, 237, rfl⟩
abbrev main_v157 : Ref sig .tc := ⟨.hbm, 238, rfl⟩
abbrev main_v158 : Ref sig .tc := ⟨.hbm, 239, rfl⟩
abbrev main_cst_59 : Ref sig .tc := ⟨.hbm, 240, rfl⟩
abbrev main_cst_60 : Ref sig .tc := ⟨.hbm, 241, rfl⟩
abbrev main_call16_v0 : Ref sig .tc := ⟨.hbm, 242, rfl⟩
abbrev main_call16_v1 : Ref sig .tc := ⟨.hbm, 243, rfl⟩
abbrev main_v159 : Ref sig .tc := ⟨.hbm, 244, rfl⟩
abbrev main_cst_61 : Ref sig .tc := ⟨.hbm, 245, rfl⟩
abbrev main_cst_62 : Ref sig .tc := ⟨.hbm, 246, rfl⟩
abbrev main_call17_v0 : Ref sig .tc := ⟨.hbm, 247, rfl⟩
abbrev main_call17_v1 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_c_63 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_cst_64 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩

abbrev nD : Nat := 1
abbrev τ : Topo := Topo.v7x

variable {F : FTy → Type} [FloatOps F]
-- ==== Proof.Tile.lean ====
/-
  The vocabulary of one 256-row tile of the quantiser, on vectors with `n` columns: every operation the kernels apply
  to a tile, in the order they apply it, as functions both kernels' stored values are instances of.
-/
module

public import Idealize.ShloMosaic.Lib.Pipeline.Value
public import Idealize.ShloMosaic.Lib.Pipeline.ReadBack
public import Idealize.ShloMosaic.PureOps.Ideal.Laws
public import Idealize.ShloMosaic.Lib.Pointwise.ElementwiseCore

@[expose] public section

noncomputable section

namespace Mxfp4

open Idealize.ShloMosaic

/-- The shape of a matrix. -/
abbrev S2 (a b : Nat) : Shape := ⟨2, ![a, b]⟩
/-- The shape of a stack of matrices. -/
abbrev S3 (a b c : Nat) : Shape := ⟨3, ![a, b, c]⟩

/-- The shape relations the operations of a tile with `n` columns take. -/
structure TileFacts (n : Nat) : Prop where
  self8 : (S2 8 n).ShapeCasts (S2 8 n)
  blocks : (S2 256 n).ShapeCasts (S3 8 32 n)
  red : (S3 8 32 n).Reduces [1] (S2 8 n)
  row32 : (S2 1 n).Broadcasts (S2 32 n)
  slice32 : ∀ off, off + 32 ≤ 256 → (S2 256 n).Slices ![off, 0] (S2 32 n)
  cat8 : Shape.Concatenates [S2 32 n, S2 32 n, S2 32 n, S2 32 n, S2 32 n, S2 32 n, S2 32 n, S2 32 n] (S2 256 n) 0
  groups : (S2 256 n).ShapeCasts (S3 32 8 n)
  sliceG : ∀ k, k < 8 → (S3 32 8 n).Slices ![0, k, 0] (S3 32 1 n)
  drop1 : (S3 32 1 n).ShapeCasts (S2 32 n)
  bytes : (S2 32 n).Bitcasts 32 (S2 128 n) 8
  self1 : (S2 1 n).ShapeCasts (S2 1 n)
  row16 : (S2 1 n).Broadcasts (S2 16 n)
  slice16 : ∀ off, off + 16 ≤ 256 → (S2 256 n).Slices ![off, 0] (S2 16 n)
  cat16 : Shape.Concatenates [S2 16 n, S2 16 n, S2 16 n, S2 16 n, S2 16 n, S2 16 n, S2 16 n, S2 16 n,
    S2 16 n, S2 16 n, S2 16 n, S2 16 n, S2 16 n, S2 16 n, S2 16 n, S2 16 n] (S2 256 n) 0
  rowIn : ∀ b, b + 1 ≤ 8 → ∀ a, (![b, 0] : Fin 2 → Nat) a + (S2 1 n).size a ≤ (S2 8 n).size a

variable {n : Nat}

/-! ## Scales -/

/-- The biased scale exponent of each block, from the tile's values. -/
def seT (h : TileFacts n) (v : FVec Ideal (S2 256 n) .f32) : IVec (S2 8 n) 32 :=
  have a : FVec Ideal (S2 8 n) .f32 :=
    multiReduction .maximumf [1] (S2 8 n) (shapeCast (S3 8 32 n) (absf v) h.blocks) 0xFF800000#32 h.red (.inl rfl) rfl
  select (cmpf .oeq a (broadcast (S2 8 n) (Scalar.ofBits .f32 0x00000000#32))) (broadcast (S2 8 n) 127#32)
    (subi (addi (fptosi 32 (floor (divf (log a) (log (broadcast (S2 8 n) (Scalar.ofBits .f32 0x40000000#32))))))
      (broadcast (S2 8 n) 127#32)) (broadcast (S2 8 n) 2#32))

/-- The inverse scale of each block. -/
def invT (h : TileFacts n) (v : FVec Ideal (S2 256 n) .f32) : FVec Ideal (S2 8 n) .f32 :=
  shapeCast (S2 8 n) (exp2 (sitofp .f32 (subi (broadcast (S2 8 n) 127#32) (seT h v)))) h.self8

/-- The exponent field the dequantising multiplication reads. -/
def pairT (h : TileFacts n) (v : FVec Ideal (S2 256 n) .f32) : IVec (S2 8 n) 32 :=
  shapeCast (S2 8 n) (andi (seT h v) (broadcast (S2 8 n) 255#32)) h.self8

/-- Row `b` of an array of eight rows. -/
def rowT {e : EltTy} (h : TileFacts n) (x : (S2 8 n).Idx → Elt Ideal e) (b : Nat) (hb : b + 1 ≤ 8) :
    (S2 1 n).Idx → Elt Ideal e :=
  View.ld x (Rect.unit (s := S2 8 n) ![b, 0] (S2 1 n).size (h.rowIn b hb))

/-- The 32 rows at `off`, each scaled by row `b` of the inverse scales. -/
def scaledT (h : TileFacts n) (v : FVec Ideal (S2 256 n) .f32) (inv : FVec Ideal (S2 8 n) .f32) (off : Nat)
    (ho : off + 32 ≤ 256) (b : Nat) (hb : b + 1 ≤ 8) : FVec Ideal (S2 32 n) .f32 :=
  mulf (extractStridedSlice (S2 32 n) ![off, 0] v (h.slice32 off ho))
    (broadcastTo (S2 32 n) (rowT (e := .f32) h inv b hb) h.row32)

/-- Eight blocks of 32 rows, one under the other. -/
def cat8T (h : TileFacts n) (w0 w1 w2 w3 w4 w5 w6 w7 : FVec Ideal (S2 32 n) .f32) : FVec Ideal (S2 256 n) .f32 :=
  concatenate (S2 256 n) 0 [⟨S2 32 n, w0⟩, ⟨S2 32 n, w1⟩, ⟨S2 32 n, w2⟩, ⟨S2 32 n, w3⟩, ⟨S2 32 n, w4⟩, ⟨S2 32 n, w5⟩,
    ⟨S2 32 n, w6⟩, ⟨S2 32 n, w7⟩] h.cat8

/-- The scaled tile. -/
def wT (h : TileFacts n) (v : FVec Ideal (S2 256 n) .f32) (inv : FVec Ideal (S2 8 n) .f32) : FVec Ideal (S2 256 n) .f32 :=
  cat8T h (scaledT h v inv 0 (by omega) 0 (by omega)) (scaledT h v inv 32 (by omega) 1 (by omega))
    (scaledT h v inv 64 (by omega) 2 (by omega)) (scaledT h v inv 96 (by omega) 3 (by omega))
    (scaledT h v inv 128 (by omega) 4 (by omega)) (scaledT h v inv 160 (by omega) 5 (by omega))
    (scaledT h v inv 192 (by omega) 6 (by omega)) (scaledT h v inv 224 (by omega) 7 (by omega))

/-! ## Rounding, elementwise -/

section Elementwise
variable {s : Shape}

/-- The magnitude, at most 6. -/
def magV (w : FVec Ideal s .f32) : FVec Ideal s .f32 :=
  minimumf (absf w) (broadcast s (Scalar.ofBits .f32 0x40C00000#32))

/-- The step of the upper binades: 2 below 4, 4 from 4 on. -/
def hiV (w : FVec Ideal s .f32) : FVec Ideal s .f32 :=
  select (cmpf .olt (magV w) (broadcast s (Scalar.ofBits .f32 0x40800000#32)))
    (broadcast s (Scalar.ofBits .f32 0x40000000#32)) (broadcast s (Scalar.ofBits .f32 0x40800000#32))

/-- Twice the distance of neighbouring values at the magnitude. -/
def stepV (w : FVec Ideal s .f32) : FVec Ideal s .f32 :=
  select (cmpf .olt (magV w) (broadcast s (Scalar.ofBits .f32 0x40000000#32)))
    (broadcast s (Scalar.ofBits .f32 0x3F800000#32)) (hiV w)

/-- The magnitude in units of the distance. -/
def unitsV (w : FVec Ideal s .f32) : FVec Ideal s .f32 :=
  mulf (magV w) (divf (broadcast s (Scalar.ofBits .f32 0x40000000#32)) (stepV w))

/-- A count of units as a value. -/
def ofUnitsV (w t : FVec Ideal s .f32) : FVec Ideal s .f32 :=
  mulf (mulf t (broadcast s (Scalar.ofBits .f32 0x3F000000#32))) (stepV w)

/-- The value `q` with the sign of `w`. -/
def signedV (w q : FVec Ideal s .f32) : FVec Ideal s .f32 :=
  select (cmpf .olt w (broadcast s (Scalar.ofBits .f32 0x00000000#32)))
    (subf (broadcast s (Scalar.ofBits .f32 0x00000000#32)) q) q

/-- The value rounded to nearest even. -/
def f4V (w : FVec Ideal s .f32) : FVec Ideal s .f32 := signedV w (ofUnitsV w (roundeven (unitsV w)))

/-- The four-bit code of the value rounded to nearest even. -/
def nibV (w : FVec Ideal s .f32) : IVec s 32 :=
  ori (fptosi 32 (addf (roundeven (unitsV w))
      (select (cmpf .olt (magV w) (broadcast s (Scalar.ofBits .f32 0x40000000#32)))
        (broadcast s (Scalar.ofBits .f32 0x00000000#32)) (hiV w))))
    (select (cmpf .olt w (broadcast s (Scalar.ofBits .f32 0x00000000#32))) (broadcast s 8#32) (broadcast s 0#32))

/-- The stochastic rounding of `w` by the random bytes. -/
def srV (w : FVec Ideal s .f32) (bits : IVec s 8) (hb : FTy.bits .bf16 < FTy.bits .f32) : FVec Ideal s .f32 :=
  signedV w (ofUnitsV w (ceil (subf (unitsV w)
    (mulf (addf (extf .f32 (uitofp (F := Ideal) .bf16 bits) hb) (broadcast s (Scalar.ofBits .f32 0x3F000000#32)))
      (broadcast s (Scalar.ofBits .f32 0x3B800000#32))))))

end Elementwise

/-- The scaled tile, each block rounded stochastically by its rows of the random bytes. -/
def srT (h : TileFacts n) (hb : FTy.bits .bf16 < FTy.bits .f32) (v : FVec Ideal (S2 256 n) .f32) (inv : FVec Ideal (S2 8 n) .f32)
    (bits : IVec (S2 256 n) 8) : FVec Ideal (S2 256 n) .f32 :=
  have piece (off : Nat) (ho : off + 32 ≤ 256) (b : Nat) (hb' : b + 1 ≤ 8) : FVec Ideal (S2 32 n) .f32 :=
    srV (scaledT h v inv off ho b hb') (extractStridedSlice (S2 32 n) ![off, 0] bits (h.slice32 off ho)) hb
  cat8T h (piece 0 (by omega) 0 (by omega)) (piece 32 (by omega) 1 (by omega))
    (piece 64 (by omega) 2 (by omega)) (piece 96 (by omega) 3 (by omega))
    (piece 128 (by omega) 4 (by omega)) (piece 160 (by omega) 5 (by omega))
    (piece 192 (by omega) 6 (by omega)) (piece 224 (by omega) 7 (by omega))

/-! ## Packing -/

/-- Row `k` of each group of eight rows. -/
def groupT (h : TileFacts n) (nib : IVec (S2 256 n) 32) (k : Nat) (hk : k < 8) : IVec (S2 32 n) 32 :=
  shapeCast (S2 32 n) (extractStridedSlice (S3 32 1 n) ![0, k, 0] (shapeCast (S3 32 8 n) nib h.groups) (h.sliceG k hk)) h.drop1

/-- Eight codes in a word, the first lowest. -/
def wordT (h : TileFacts n) (nib : IVec (S2 256 n) 32) : IVec (S2 32 n) 32 :=
  ori (ori (ori (ori (ori (ori (ori (groupT h nib 0 (by omega))
    (shli (groupT h nib 1 (by omega)) (broadcast (S2 32 n) 4#32)))
    (shli (groupT h nib 2 (by omega)) (broadcast (S2 32 n) 8#32)))
    (shli (groupT h nib 3 (by omega)) (broadcast (S2 32 n) 12#32)))
    (shli (groupT h nib 4 (by omega)) (broadcast (S2 32 n) 16#32)))
    (shli (groupT h nib 5 (by omega)) (broadcast (S2 32 n) 20#32)))
    (shli (groupT h nib 6 (by omega)) (broadcast (S2 32 n) 24#32)))
    (shli (groupT h nib 7 (by omega)) (broadcast (S2 32 n) 28#32))

/-- The words with every negative zero made a zero, as bytes. -/
def codesT (h : TileFacts n) (nib : IVec (S2 256 n) 32) : IVec (S2 128 n) 8 :=
  bitcast (S2 128 n) 8 (andi (wordT h nib) (ori (addi (andi (wordT h nib) (broadcast (S2 32 n) 2004318071#32))
    (broadcast (S2 32 n) 2004318071#32)) (broadcast (S2 32 n) 2004318071#32))) h.bytes

/-! ## Dequantised values -/

/-- The 16 rows at `off`, each times the scale whose exponent is row `b` of `pair`. -/
def deqT (h : TileFacts n) (hb : FTy.bits .bf16 < FTy.bits .f32) (f : FVec Ideal (S2 256 n) .f32) (pair : IVec (S2 8 n) 32)
    (off : Nat) (ho : off + 16 ≤ 256) (b : Nat) (hb' : b + 1 ≤ 8) : FVec Ideal (S2 16 n) .bf16 :=
  mulf (extractStridedSlice (S2 16 n) ![off, 0] (truncf .bf16 f hb) (h.slice16 off ho))
    (truncf .bf16 (exp2 (sitofp .f32 (subi (broadcastTo (S2 16 n) (shapeCast (S2 1 n) (rowT (e := .i32) h pair b hb') h.self1) h.row16)
      (broadcast (S2 16 n) 127#32)))) hb)

/-- The dequantised tile. -/
def valT (h : TileFacts n) (hb : FTy.bits .bf16 < FTy.bits .f32) (f : FVec Ideal (S2 256 n) .f32) (pair : IVec (S2 8 n) 32) :
    FVec Ideal (S2 256 n) .bf16 :=
  concatenate (S2 256 n) 0 [⟨S2 16 n, deqT h hb f pair 0 (by omega) 0 (by omega)⟩, ⟨S2 16 n, deqT h hb f pair 16 (by omega) 0 (by omega)⟩,
    ⟨S2 16 n, deqT h hb f pair 32 (by omega) 1 (by omega)⟩, ⟨S2 16 n, deqT h hb f pair 48 (by omega) 1 (by omega)⟩,
    ⟨S2 16 n, deqT h hb f pair 64 (by omega) 2 (by omega)⟩, ⟨S2 16 n, deqT h hb f pair 80 (by omega) 2 (by omega)⟩,
    ⟨S2 16 n, deqT h hb f pair 96 (by omega) 3 (by omega)⟩, ⟨S2 16 n, deqT h hb f pair 112 (by omega) 3 (by omega)⟩,
    ⟨S2 16 n, deqT h hb f pair 128 (by omega) 4 (by omega)⟩, ⟨S2 16 n, deqT h hb f pair 144 (by omega) 4 (by omega)⟩,
    ⟨S2 16 n, deqT h hb f pair 160 (by omega) 5 (by omega)⟩, ⟨S2 16 n, deqT h hb f pair 176 (by omega) 5 (by omega)⟩,
    ⟨S2 16 n, deqT h hb f pair 192 (by omega) 6 (by omega)⟩, ⟨S2 16 n, deqT h hb f pair 208 (by omega) 6 (by omega)⟩,
    ⟨S2 16 n, deqT h hb f pair 224 (by omega) 7 (by omega)⟩, ⟨S2 16 n, deqT h hb f pair 240 (by omega) 7 (by omega)⟩] h.cat16

/-! ## The transform's matrix -/

/-- The lane number modulo 16. -/
def laneT : IVec (S2 1 256) 32 :=
  andi (iota .tc (S2 1 256) 32 [1] (by decide)) (broadcast (S2 1 256) 15#32)

/-- The row `r` with sign `s` at the lanes that are `k` modulo 16. -/
def laneSel (k : BitVec 32) (s : EReal) (r : FVec Ideal (S2 1 256) .f32) : FVec Ideal (S2 1 256) .f32 :=
  select (cmpi .eq laneT (broadcast (S2 1 256) k)) (broadcast (α := EReal) (S2 1 256) s) r

/-- The signs, repeated along the lanes. -/
def signRow (s : Fin 16 → EReal) : FVec Ideal (S2 1 256) .f32 :=
  laneSel 15#32 (s 15) (laneSel 14#32 (s 14) (laneSel 13#32 (s 13) (laneSel 12#32 (s 12) (laneSel 11#32 (s 11)
  (laneSel 10#32 (s 10) (laneSel 9#32 (s 9) (laneSel 8#32 (s 8) (laneSel 7#32 (s 7) (laneSel 6#32 (s 6)
  (laneSel 5#32 (s 5) (laneSel 4#32 (s 4) (laneSel 3#32 (s 3) (laneSel 2#32 (s 2) (laneSel 1#32 (s 1)
  (laneSel 0#32 (s 0) (broadcast (S2 1 256) (Scalar.ofBits .f32 0x00000000#32)))))))))))))))))

/-- Row and column numbers, and the common bits of the two, folded once onto the low two bits. -/
def rowN : IVec (S2 256 256) 32 := iota .tc (S2 256 256) 32 [0] (by decide)
@[inherit_doc rowN] def colN : IVec (S2 256 256) 32 := iota .tc (S2 256 256) 32 [1] (by decide)
@[inherit_doc rowN] def foldN : IVec (S2 256 256) 32 :=
  xori (andi (andi rowN colN) (broadcast (S2 256 256) 15#32))
    (shrsi (andi (andi rowN colN) (broadcast (S2 256 256) 15#32)) (broadcast (S2 256 256) 2#32))

/-- The matrix of the random Hadamard transform on 256 rows: sixteen equal blocks on the diagonal, each a Hadamard matrix
    over 4 with its columns multiplied by the signs. -/
def rhtT (hb : FTy.bits .bf16 < FTy.bits .f32) (s : Fin 16 → EReal) : FVec Ideal (S2 256 256) .bf16 :=
  shapeCast (S2 256 256) (truncf .bf16
    (select (cmpi .eq (shrsi rowN (broadcast (S2 256 256) 4#32)) (shrsi colN (broadcast (S2 256 256) 4#32)))
      (mulf (select (cmpi .eq (andi (xori foldN (shrsi foldN (broadcast (S2 256 256) 1#32))) (broadcast (S2 256 256) 1#32))
          (broadcast (S2 256 256) 1#32))
          (broadcast (S2 256 256) (Scalar.ofBits .f32 0xBE800000#32)) (broadcast (S2 256 256) (Scalar.ofBits .f32 0x3E800000#32)))
        (broadcastTo (S2 256 256) (signRow s) (by decide)))
      (broadcast (S2 256 256) (Scalar.ofBits .f32 0x00000000#32))) hb) (by decide)

/-- A load through a rectangle of what covering or partial stores left reads the stores' contents there. -/
theorem readCov_ld {sig : RefSig} {κ : Kind} {sp : Space} {s : Shape} {e : EltTy} {Val : EltTy → Type} [∀ e, Nonempty (Val e)]
    (v : View sig κ sp s e) (L : List (View.Piece Val s e)) (r : Rect s) : v.readCov L r.toLoadRect = View.ld (View.canon L) r :=
  View.readCov_eq_canon' v L r.toLoadRect

/-- A slice of rows of a matrix of 256 rows, whatever the number of columns. -/
theorem slices_rows (k off : Nat) (h : off + k ≤ 256) : (S2 256 n).Slices ![off, 0] (S2 k n) :=
  ⟨rfl, fun a => match a with
    | ⟨0, _⟩ => h
    | ⟨1, _⟩ => by show 0 + n ≤ n; omega⟩

/-- The shape relations hold at 512 columns. -/
theorem facts512 : TileFacts 512 where
  self8 := by decide
  blocks := by decide
  red := by decide
  row32 := by decide
  slice32 off h := slices_rows 32 off h
  cat8 := by decide
  groups := by decide
  sliceG := by decide
  drop1 := by decide
  bytes := by decide
  self1 := by decide
  row16 := by decide
  slice16 off h := slices_rows 16 off h
  cat16 := by decide
  rowIn b h a := match a with
    | ⟨0, _⟩ => h
    | ⟨1, _⟩ => by show 0 + 512 ≤ 512; omega

/-- The shape relations hold at 256 columns. -/
theorem facts256 : TileFacts 256 where
  self8 := by decide
  blocks := by decide
  red := by decide
  row32 := by decide
  slice32 off h := slices_rows 32 off h
  cat8 := by decide
  groups := by decide
  sliceG := by decide
  drop1 := by decide
  bytes := by decide
  self1 := by decide
  row16 := by decide
  slice16 off h := slices_rows 16 off h
  cat16 := by decide
  rowIn b h a := match a with
    | ⟨0, _⟩ => h
    | ⟨1, _⟩ => by show 0 + 256 ≤ 256; omega

end Mxfp4
-- ==== Proof.KernelX.lean ====
/-
  What one grid point of the x kernel stores, as a function of the transform's matrix and of the point's blocks.
-/
module

public import proofs.«01_k».proof.Proof.Gen.KernelIdeal.Value
public import proofs.«01_k».proof.Proof.Tile

@[expose] public section

set_option maxRecDepth 16384
noncomputable section

namespace Mxfp4.X

open Idealize.ShloMosaic Idealize.ShloMosaic.TcCoe Idealize.ShloMosaic.Tactic
open Idealize.SL Idealize.SL.Sem Cert.KernelIdeal Cert.KernelIdeal.Gen

variable (m : (ℓ : Loc nD τ sig) → Buf (Elt Ideal) ℓ)

/-- The 256 rows of a block of x at `off`. -/
def tile (X : Vec Ideal S1536x512 .bf16) (off : Nat)
    (h : ∀ a, (![off, 0] : Fin 2 → Nat) a + S256x512.size a ≤ S1536x512.size a) : Vec Ideal S256x512 .bf16 :=
  View.ld (Val := Elt Ideal) (e' := EltTy.bf16) X (Rect.unit (s := S1536x512) ![off, 0] S256x512.size h)

/-- The transformed tile. -/
def v (Q : Vec Ideal S256x256 .bf16) (X : Vec Ideal S256x512 .bf16) : FVec Ideal S256x512 .f32 :=
  matmul dot_S256x256_S256x512_S256x512_1_0_0_1_n_n none (φ₁ := .bf16) (φ₂ := .bf16) Q
    (shapeCast S256x512 X shapeCasts_S256x512_S256x512) (constant S256x512 .f32 0x00000000#32)

/-- The scaled tile. -/
def w (Q : Vec Ideal S256x256 .bf16) (X : Vec Ideal S256x512 .bf16) : FVec Ideal S256x512 .f32 :=
  wT facts512 (v Q X) (invT facts512 (v Q X))

/-- The tile's codes. -/
def codes (Q : Vec Ideal S256x256 .bf16) (X : Vec Ideal S256x512 .bf16) : IVec S128x512 8 :=
  codesT facts512 (nibV (w Q X))

/-- The tile's scale exponents. -/
def se (Q : Vec Ideal S256x256 .bf16) (X : Vec Ideal S256x512 .bf16) : IVec S8x512 32 :=
  shapeCast S8x512 (seT facts512 (v Q X)) shapeCasts_S8x512_S8x512

/-- The tile's dequantised values. -/
def val (Q : Vec Ideal S256x256 .bf16) (X : Vec Ideal S256x512 .bf16) : FVec Ideal S256x512 .bf16 :=
  shapeCast S256x512 (valT facts512 bitsLt_bf16_f32 (f4V (w Q X)) (pairT facts512 (v Q X))) shapeCasts_S256x512_S256x512

/-- The codes of the six tiles, one under the other. -/
def codesAll (Q : Vec Ideal S256x256 .bf16) (X : Vec Ideal S1536x512 .bf16) : Vec Ideal S768x512 .i8 :=
  View.canon (Val := Elt Ideal) (e := .i8) (s := S768x512) [⟨Rect.unit (s := S768x512) ![640, 0] S128x512.size inb_S768x512_S128x512_640_0,
      codes Q (tile X 1280 inb_S1536x512_S256x512_1280_0)⟩,
    ⟨Rect.unit (s := S768x512) ![512, 0] S128x512.size inb_S768x512_S128x512_512_0,
      codes Q (tile X 1024 inb_S1536x512_S256x512_1024_0)⟩,
    ⟨Rect.unit (s := S768x512) ![384, 0] S128x512.size inb_S768x512_S128x512_384_0,
      codes Q (tile X 768 inb_S1536x512_S256x512_768_0)⟩,
    ⟨Rect.unit (s := S768x512) ![256, 0] S128x512.size inb_S768x512_S128x512_256_0,
      codes Q (tile X 512 inb_S1536x512_S256x512_512_0)⟩,
    ⟨Rect.unit (s := S768x512) ![128, 0] S128x512.size inb_S768x512_S128x512_128_0,
      codes Q (tile X 256 inb_S1536x512_S256x512_256_0)⟩,
    ⟨Rect.unit (s := S768x512) ![0, 0] S128x512.size inb_S768x512_S128x512_0_0,
      codes Q (tile X 0 inb_S1536x512_S256x512_0_0)⟩]

/-- The scale exponents of the six tiles, one under the other. -/
def seAll (Q : Vec Ideal S256x256 .bf16) (X : Vec Ideal S1536x512 .bf16) : Vec Ideal S48x512 .i32 :=
  View.canon (Val := Elt Ideal) (e := .i32) (s := S48x512) [⟨Rect.unit (s := S48x512) ![40, 0] S8x512.size inb_S48x512_S8x512_40_0,
      se Q (tile X 1280 inb_S1536x512_S256x512_1280_0)⟩,
    ⟨Rect.unit (s := S48x512) ![32, 0] S8x512.size inb_S48x512_S8x512_32_0,
      se Q (tile X 1024 inb_S1536x512_S256x512_1024_0)⟩,
    ⟨Rect.unit (s := S48x512) ![24, 0] S8x512.size inb_S48x512_S8x512_24_0,
      se Q (tile X 768 inb_S1536x512_S256x512_768_0)⟩,
    ⟨Rect.unit (s := S48x512) ![16, 0] S8x512.size inb_S48x512_S8x512_16_0,
      se Q (tile X 512 inb_S1536x512_S256x512_512_0)⟩,
    ⟨Rect.unit (s := S48x512) ![8, 0] S8x512.size inb_S48x512_S8x512_8_0,
      se Q (tile X 256 inb_S1536x512_S256x512_256_0)⟩,
    ⟨Rect.unit (s := S48x512) ![0, 0] S8x512.size inb_S48x512_S8x512_0_0,
      se Q (tile X 0 inb_S1536x512_S256x512_0_0)⟩]

/-- The dequantised values of the six tiles, one under the other. -/
def valAll (Q : Vec Ideal S256x256 .bf16) (X : Vec Ideal S1536x512 .bf16) : Vec Ideal S1536x512 .bf16 :=
  View.canon (Val := Elt Ideal) (e := .bf16) (s := S1536x512) [⟨Rect.unit (s := S1536x512) ![1280, 0] S256x512.size inb_S1536x512_S256x512_1280_0,
      val Q (tile X 1280 inb_S1536x512_S256x512_1280_0)⟩,
    ⟨Rect.unit (s := S1536x512) ![1024, 0] S256x512.size inb_S1536x512_S256x512_1024_0,
      val Q (tile X 1024 inb_S1536x512_S256x512_1024_0)⟩,
    ⟨Rect.unit (s := S1536x512) ![768, 0] S256x512.size inb_S1536x512_S256x512_768_0,
      val Q (tile X 768 inb_S1536x512_S256x512_768_0)⟩,
    ⟨Rect.unit (s := S1536x512) ![512, 0] S256x512.size inb_S1536x512_S256x512_512_0,
      val Q (tile X 512 inb_S1536x512_S256x512_512_0)⟩,
    ⟨Rect.unit (s := S1536x512) ![256, 0] S256x512.size inb_S1536x512_S256x512_256_0,
      val Q (tile X 256 inb_S1536x512_S256x512_256_0)⟩,
    ⟨Rect.unit (s := S1536x512) ![0, 0] S256x512.size inb_S1536x512_S256x512_0_0,
      val Q (tile X 0 inb_S1536x512_S256x512_0_0)⟩]

/-- Twelve rows of the scale exponents at `off`, as bytes. -/
def exps1 (Q : Vec Ideal S256x256 .bf16) (X : Vec Ideal S1536x512 .bf16) (off : Nat)
    (h : ∀ a, (![off, 0] : Fin 2 → Nat) a + S12x512.size a ≤ S48x512.size a) : IVec S1x12x512 8 :=
  shapeCast S1x12x512 (trunci 8 (View.ld (Val := Elt Ideal) (e' := EltTy.i32) (seAll Q X) (Rect.unit (s := S48x512) ![off, 0] S12x512.size h)))
    shapeCasts_S12x512_S1x12x512

/-- The scale exponents of the four batches. -/
def expsAll (Q : Vec Ideal S256x256 .bf16) (X : Vec Ideal S1536x512 .bf16) : Vec Ideal S4x12x512 .i8 :=
  View.canon (Val := Elt Ideal) (e := .i8) (s := S4x12x512) [⟨Rect.unit (s := S4x12x512) ![3, 0, 0] S1x12x512.size inb_S4x12x512_S1x12x512_3_0_0, exps1 Q X 36 inb_S48x512_S12x512_36_0⟩,
    ⟨Rect.unit (s := S4x12x512) ![2, 0, 0] S1x12x512.size inb_S4x12x512_S1x12x512_2_0_0, exps1 Q X 24 inb_S48x512_S12x512_24_0⟩,
    ⟨Rect.unit (s := S4x12x512) ![1, 0, 0] S1x12x512.size inb_S4x12x512_S1x12x512_1_0_0, exps1 Q X 12 inb_S48x512_S12x512_12_0⟩,
    ⟨Rect.unit (s := S4x12x512) ![0, 0, 0] S1x12x512.size inb_S4x12x512_S1x12x512_0_0_0, exps1 Q X 0 inb_S48x512_S12x512_0_0⟩]

/-- The product of dy's dequantised values by x's. -/
def dw (Q : Vec Ideal S256x256 .bf16) (X : Vec Ideal S1536x512 .bf16) (W : Vec Ideal S2048x1536 .bf16) : FVec Ideal S2048x512 .f32 :=
  matmul dot_S2048x1536_S1536x512_S2048x512_1_0_0_1_n_n none (φ₁ := .bf16) (φ₂ := .bf16) (W : FVec Ideal S2048x1536 .bf16)
    (valAll Q X : FVec Ideal S1536x512 .bf16) (constant S2048x512 .f32 0x00000000#32)

/-- The sixteen signs. -/
def signs (S : Vec Ideal S16 .f32) (k : Fin 16) : EReal :=
  View.ld (Val := Elt Ideal) (e' := EltTy.f32) S
    (Rect.unit (s := S16) ![k.val] S1.size (fun a => match a with | ⟨0, _⟩ => k.isLt)) (Shape.Idx.first (s := S1) (by decide))

set_option maxHeartbeats 1600000 in
/-- What the first point leaves: the product. -/
theorem dw_A (c : Dev nD) (t : Fin cfg0.N) (h0 : t.val % 14 = 0) :
    (outsAt0 m c t.val t.isLt).1 = dw (rhtT bitsLt_bf16_f32 (signs (iblk m c 0 t))) (iblk m c 1 t) (iblk m c 2 t) := by
  obtain ⟨Q, hQ⟩ : ∃ Q, Q = rhtT bitsLt_bf16_f32 (signs (iblk m c 0 t)) := ⟨_, rfl⟩
  rw [← hQ, outsAt0_A m c t h0]; dsimp only
  unfold out0_A_3
  rw [View.read_writes_junk_eq_canon]
  unfold kernelRun0_A; dsimp only
  sl_unfold_words
  simp only [View.readAt_eq_ld, (hs0_0 t).read_unread, (hs0_1 t).read_unread, (hs0_2 t).read_unread, (Memref.isWhole_whole cc0_scratch0).read_unread,
    View.ld_unit_lit (S := S256x256) _ _ (by decide : ∀ a, (![0,0] : Fin 2 → Nat) a = 0),
    View.ld_unit_lit (S := S2048x1536) _ _ (by decide : ∀ a, (![0,0] : Fin 2 → Nat) a = 0),
    View.ld_unit_lit (S := S1536x512) _ _ (by decide : ∀ a, (![0,0] : Fin 2 → Nat) a = 0),
    View.readCov_fill (s := S8x512) _ _ _ _ _ (by decide : ∀ a, (![0,0] : Fin 2 → Nat) a = 0),
    View.readCov_fill (s := S256x256) _ _ _ _ _ (by decide : ∀ a, (![0,0] : Fin 2 → Nat) a = 0), readCov_ld]
  refine (View.canon_unit_zero (S := S2048x512) (by decide) _ _).trans ?_
  generalize hG : k0_pay9 (F := Ideal) _ _ _ _ _ _ _ _ = Q'
  have hQ' : Q' = Q := by rw [← hG, hQ]; rfl
  clear hG
  subst hQ'
  rfl

set_option maxHeartbeats 1600000 in
/-- What the first point leaves: the codes. -/
theorem codes_A (c : Dev nD) (t : Fin cfg0.N) (h0 : t.val % 14 = 0) :
    (outsAt0 m c t.val t.isLt).2.1 = codesAll (rhtT bitsLt_bf16_f32 (signs (iblk m c 0 t))) (iblk m c 1 t) := by
  obtain ⟨Q, hQ⟩ : ∃ Q, Q = rhtT bitsLt_bf16_f32 (signs (iblk m c 0 t)) := ⟨_, rfl⟩
  rw [← hQ, outsAt0_A m c t h0]; dsimp only
  unfold out0_A_4
  rw [View.read_writes_junk_eq_canon]
  unfold kernelRun0_A; dsimp only
  sl_unfold_words
  simp only [View.readAt_eq_ld, (hs0_0 t).read_unread, (hs0_1 t).read_unread, (hs0_2 t).read_unread, (Memref.isWhole_whole cc0_scratch0).read_unread,
    View.ld_unit_lit (S := S256x256) _ _ (by decide : ∀ a, (![0,0] : Fin 2 → Nat) a = 0),
    View.ld_unit_lit (S := S2048x1536) _ _ (by decide : ∀ a, (![0,0] : Fin 2 → Nat) a = 0),
    View.ld_unit_lit (S := S1536x512) _ _ (by decide : ∀ a, (![0,0] : Fin 2 → Nat) a = 0),
    View.readCov_fill (s := S8x512) _ _ _ _ _ (by decide : ∀ a, (![0,0] : Fin 2 → Nat) a = 0),
    View.readCov_fill (s := S256x256) _ _ _ _ _ (by decide : ∀ a, (![0,0] : Fin 2 → Nat) a = 0), readCov_ld]
  generalize hG : k0_pay9 (F := Ideal) _ _ _ _ _ _ _ _ = Q'
  have hQ' : Q' = Q := by rw [← hG, hQ]; rfl
  clear hG
  subst hQ'
  rfl

set_option maxHeartbeats 1600000 in
/-- What the first point leaves: the scale exponents. -/
theorem exps_A (c : Dev nD) (t : Fin cfg0.N) (h0 : t.val % 14 = 0) :
    (outsAt0 m c t.val t.isLt).2.2.1 = expsAll (rhtT bitsLt_bf16_f32 (signs (iblk m c 0 t))) (iblk m c 1 t) := by
  obtain ⟨Q, hQ⟩ : ∃ Q, Q = rhtT bitsLt_bf16_f32 (signs (iblk m c 0 t)) := ⟨_, rfl⟩
  rw [← hQ, outsAt0_A m c t h0]; dsimp only
  unfold out0_A_5
  rw [View.read_writes_junk_eq_canon]
  unfold kernelRun0_A; dsimp only
  sl_unfold_words
  simp only [View.readAt_eq_ld, (hs0_0 t).read_unread, (hs0_1 t).read_unread, (hs0_2 t).read_unread, (Memref.isWhole_whole cc0_scratch0).read_unread,
    View.ld_unit_lit (S := S256x256) _ _ (by decide : ∀ a, (![0,0] : Fin 2 → Nat) a = 0),
    View.ld_unit_lit (S := S2048x1536) _ _ (by decide : ∀ a, (![0,0] : Fin 2 → Nat) a = 0),
    View.ld_unit_lit (S := S1536x512) _ _ (by decide : ∀ a, (![0,0] : Fin 2 → Nat) a = 0),
    View.readCov_fill (s := S8x512) _ _ _ _ _ (by decide : ∀ a, (![0,0] : Fin 2 → Nat) a = 0),
    View.readCov_fill (s := S256x256) _ _ _ _ _ (by decide : ∀ a, (![0,0] : Fin 2 → Nat) a = 0), readCov_ld]
  generalize hG : k0_pay9 (F := Ideal) _ _ _ _ _ _ _ _ = Q'
  have hQ' : Q' = Q := by rw [← hG, hQ]; rfl
  clear hG
  subst hQ'
  rfl

set_option maxHeartbeats 1600000 in
/-- What the first point leaves: the matrix. -/
theorem scratch_A (c : Dev nD) (t : Fin cfg0.N) (h0 : t.val % 14 = 0) :
    (outsAt0 m c t.val t.isLt).2.2.2 = (rhtT bitsLt_bf16_f32 (signs (iblk m c 0 t))) := by
  obtain ⟨Q, hQ⟩ : ∃ Q, Q = rhtT bitsLt_bf16_f32 (signs (iblk m c 0 t)) := ⟨_, rfl⟩
  rw [← hQ, outsAt0_A m c t h0]; dsimp only
  unfold sout0_A_0
  rw [View.read_writes_junk_eq_canon]
  unfold kernelRun0_A; dsimp only
  sl_unfold_words
  simp only [View.readAt_eq_ld, (hs0_0 t).read_unread, (hs0_1 t).read_unread, (hs0_2 t).read_unread, (Memref.isWhole_whole cc0_scratch0).read_unread,
    View.ld_unit_lit (S := S256x256) _ _ (by decide : ∀ a, (![0,0] : Fin 2 → Nat) a = 0),
    View.ld_unit_lit (S := S2048x1536) _ _ (by decide : ∀ a, (![0,0] : Fin 2 → Nat) a = 0),
    View.ld_unit_lit (S := S1536x512) _ _ (by decide : ∀ a, (![0,0] : Fin 2 → Nat) a = 0),
    View.readCov_fill (s := S8x512) _ _ _ _ _ (by decide : ∀ a, (![0,0] : Fin 2 → Nat) a = 0),
    View.readCov_fill (s := S256x256) _ _ _ _ _ (by decide : ∀ a, (![0,0] : Fin 2 → Nat) a = 0), readCov_ld]
  refine (View.canon_unit_zero (S := S256x256) (by decide) _ _).trans ?_
  rw [hQ]; rfl

set_option maxHeartbeats 1600000 in
/-- What a later point, which reads the matrix `Q` the point before it left, leaves: the product. -/
theorem dw_B (c : Dev nD) (t : Fin cfg0.N) (h0 : ¬t.val % 14 = 0) (Q : Vec Ideal S256x256 .bf16)
    (hQ : (outsAt0 m c (t.val - 1) (Nat.lt_of_le_of_lt (Nat.sub_le _ _) t.isLt)).2.2.2 = Q) :
    (outsAt0 m c t.val t.isLt).1 = dw Q (iblk m c 1 t) (iblk m c 2 t) := by
  rw [outsAt0_B m c t h0]; dsimp only
  rw [hQ]
  unfold out0_B_3
  rw [View.read_writes_junk_eq_canon]
  unfold kernelRun0_B; dsimp only
  sl_unfold_words
  simp only [View.readAt_eq_ld, (hs0_0 t).read_unread, (hs0_1 t).read_unread, (hs0_2 t).read_unread, (Memref.isWhole_whole cc0_scratch0).read_unread,
    View.ld_unit_lit (S := S256x256) _ _ (by decide : ∀ a, (![0,0] : Fin 2 → Nat) a = 0),
    View.ld_unit_lit (S := S2048x1536) _ _ (by decide : ∀ a, (![0,0] : Fin 2 → Nat) a = 0),
    View.ld_unit_lit (S := S1536x512) _ _ (by decide : ∀ a, (![0,0] : Fin 2 → Nat) a = 0),
    View.readCov_fill (s := S8x512) _ _ _ _ _ (by decide : ∀ a, (![0,0] : Fin 2 → Nat) a = 0),
    View.readCov_fill (s := S256x256) _ _ _ _ _ (by decide : ∀ a, (![0,0] : Fin 2 → Nat) a = 0), readCov_ld]
  refine (View.canon_unit_zero (S := S2048x512) (by decide) _ _).trans ?_
  rfl

set_option maxHeartbeats 1600000 in
/-- What a later point, which reads the matrix `Q` the point before it left, leaves: the codes. -/
theorem codes_B (c : Dev nD) (t : Fin cfg0.N) (h0 : ¬t.val % 14 = 0) (Q : Vec Ideal S256x256 .bf16)
    (hQ : (outsAt0 m c (t.val - 1) (Nat.lt_of_le_of_lt (Nat.sub_le _ _) t.isLt)).2.2.2 = Q) :
    (outsAt0 m c t.val t.isLt).2.1 = codesAll Q (iblk m c 1 t) := by
  rw [outsAt0_B m c t h0]; dsimp only
  rw [hQ]
  unfold out0_B_4
  rw [View.read_writes_junk_eq_canon]
  unfold kernelRun0_B; dsimp only
  sl_unfold_words
  simp only [View.readAt_eq_ld, (hs0_0 t).read_unread, (hs0_1 t).read_unread, (hs0_2 t).read_unread, (Memref.isWhole_whole cc0_scratch0).read_unread,
    View.ld_unit_lit (S := S256x256) _ _ (by decide : ∀ a, (![0,0] : Fin 2 → Nat) a = 0),
    View.ld_unit_lit (S := S2048x1536) _ _ (by decide : ∀ a, (![0,0] : Fin 2 → Nat) a = 0),
    View.ld_unit_lit (S := S1536x512) _ _ (by decide : ∀ a, (![0,0] : Fin 2 → Nat) a = 0),
    View.readCov_fill (s := S8x512) _ _ _ _ _ (by decide : ∀ a, (![0,0] : Fin 2 → Nat) a = 0),
    View.readCov_fill (s := S256x256) _ _ _ _ _ (by decide : ∀ a, (![0,0] : Fin 2 → Nat) a = 0), readCov_ld]
  rfl

set_option maxHeartbeats 1600000 in
/-- What a later point, which reads the matrix `Q` the point before it left, leaves: the scale exponents. -/
theorem exps_B (c : Dev nD) (t : Fin cfg0.N) (h0 : ¬t.val % 14 = 0) (Q : Vec Ideal S256x256 .bf16)
    (hQ : (outsAt0 m c (t.val - 1) (Nat.lt_of_le_of_lt (Nat.sub_le _ _) t.isLt)).2.2.2 = Q) :
    (outsAt0 m c t.val t.isLt).2.2.1 = expsAll Q (iblk m c 1 t) := by
  rw [outsAt0_B m c t h0]; dsimp only
  rw [hQ]
  unfold out0_B_5
  rw [View.read_writes_junk_eq_canon]
  unfold kernelRun0_B; dsimp only
  sl_unfold_words
  simp only [View.readAt_eq_ld, (hs0_0 t).read_unread, (hs0_1 t).read_unread, (hs0_2 t).read_unread, (Memref.isWhole_whole cc0_scratch0).read_unread,
    View.ld_unit_lit (S := S256x256) _ _ (by decide : ∀ a, (![0,0] : Fin 2 → Nat) a = 0),
    View.ld_unit_lit (S := S2048x1536) _ _ (by decide : ∀ a, (![0,0] : Fin 2 → Nat) a = 0),
    View.ld_unit_lit (S := S1536x512) _ _ (by decide : ∀ a, (![0,0] : Fin 2 → Nat) a = 0),
    View.readCov_fill (s := S8x512) _ _ _ _ _ (by decide : ∀ a, (![0,0] : Fin 2 → Nat) a = 0),
    View.readCov_fill (s := S256x256) _ _ _ _ _ (by decide : ∀ a, (![0,0] : Fin 2 → Nat) a = 0), readCov_ld]
  rfl

set_option maxHeartbeats 1600000 in
/-- What a later point, which reads the matrix `Q` the point before it left, leaves: the matrix. -/
theorem scratch_B (c : Dev nD) (t : Fin cfg0.N) (h0 : ¬t.val % 14 = 0) (Q : Vec Ideal S256x256 .bf16)
    (hQ : (outsAt0 m c (t.val - 1) (Nat.lt_of_le_of_lt (Nat.sub_le _ _) t.isLt)).2.2.2 = Q) :
    (outsAt0 m c t.val t.isLt).2.2.2 = Q := by
  rw [outsAt0_B m c t h0]; dsimp only
  exact hQ

/-- The matrix the first point computes. -/
def q (c : Dev nD) : Vec Ideal S256x256 .bf16 := rhtT bitsLt_bf16_f32 (signs (iblk m c 0 ⟨0, by decide⟩))

/-- The grid has 14 points. -/
theorem points : cfg0.N = 14 := by decide

/-- A point whose number is a multiple of 14 is the first. -/
theorem first_of (t : Fin cfg0.N) (h : t.val % 14 = 0) : t = ⟨0, by decide⟩ := by
  have := Nat.lt_of_lt_of_eq t.isLt points
  exact Fin.ext (by show t.val = 0; omega)

/-- Every point leaves the first point's matrix. -/
theorem scratch_at (c : Dev nD) (t : Fin cfg0.N) : (outsAt0 m c t.val t.isLt).2.2.2 = q m c := by
  obtain ⟨n, hn⟩ := t
  induction n with
  | zero => exact scratch_A m c ⟨0, hn⟩ (Nat.zero_mod _)
  | succ k ih =>
    have h0 : ¬(⟨k + 1, hn⟩ : Fin cfg0.N).val % 14 = 0 := by
      have := Nat.lt_of_lt_of_eq hn points
      show ¬(k + 1) % 14 = 0
      omega
    exact scratch_B m c ⟨k + 1, hn⟩ h0 _ (ih (Nat.lt_of_succ_lt hn))

/-- What every point leaves: its own blocks' values under the first point's matrix. -/
theorem dw_at (c : Dev nD) (t : Fin cfg0.N) :
    (outsAt0 m c t.val t.isLt).1 = dw (q m c) (iblk m c 1 t) (iblk m c 2 t) := by
  by_cases h0 : t.val % 14 = 0
  · have h := dw_A m c t h0
    rw [h, q, ← first_of t h0]
  · have hQ : (outsAt0 m c (t.val - 1) (Nat.lt_of_le_of_lt (Nat.sub_le _ _) t.isLt)).2.2.2 = q m c :=
      scratch_at m c ⟨t.val - 1, Nat.lt_of_le_of_lt (Nat.sub_le _ _) t.isLt⟩
    exact dw_B m c t h0 _ hQ

/-- What every point leaves: its own blocks' values under the first point's matrix. -/
theorem codes_at (c : Dev nD) (t : Fin cfg0.N) :
    (outsAt0 m c t.val t.isLt).2.1 = codesAll (q m c) (iblk m c 1 t) := by
  by_cases h0 : t.val % 14 = 0
  · have h := codes_A m c t h0
    rw [h, q, ← first_of t h0]
  · have hQ : (outsAt0 m c (t.val - 1) (Nat.lt_of_le_of_lt (Nat.sub_le _ _) t.isLt)).2.2.2 = q m c :=
      scratch_at m c ⟨t.val - 1, Nat.lt_of_le_of_lt (Nat.sub_le _ _) t.isLt⟩
    exact codes_B m c t h0 _ hQ

/-- What every point leaves: its own blocks' values under the first point's matrix. -/
theorem exps_at (c : Dev nD) (t : Fin cfg0.N) :
    (outsAt0 m c t.val t.isLt).2.2.1 = expsAll (q m c) (iblk m c 1 t) := by
  by_cases h0 : t.val % 14 = 0
  · have h := exps_A m c t h0
    rw [h, q, ← first_of t h0]
  · have hQ : (outsAt0 m c (t.val - 1) (Nat.lt_of_le_of_lt (Nat.sub_le _ _) t.isLt)).2.2.2 = q m c :=
      scratch_at m c ⟨t.val - 1, Nat.lt_of_le_of_lt (Nat.sub_le _ _) t.isLt⟩
    exact exps_B m c t h0 _ hQ

end Mxfp4.X
-- ==== Proof.Scalar.lean ====
/-
  The quantiser on single numbers: the kernel's rounding and codes against the reference's, at the extended reals.
-/
module

public import Idealize.ShloMosaic.PureOps.Ideal
public import Idealize.ShloMosaic.PureOps.Ideal.Laws
public import Mathlib.Tactic.NormNum
public import Mathlib.Tactic.IntervalCases
public import Mathlib.Tactic.FinCases
public import Mathlib.Tactic.Linarith

@[expose] public section

noncomputable section

namespace Mxfp4

open Idealize.ShloMosaic

/-! ## Literals -/

/-- The values of the programs' floating-point literals. -/
theorem lit_zero : Ideal.ofBits .f32 0x00000000#32 = ((0 : ℝ) : EReal) := by
  simp [Ideal.ofBits, Ideal.ieee, -EReal.coe_mul]
@[inherit_doc lit_zero] theorem lit_half : Ideal.ofBits .f32 0x3F000000#32 = ((1 / 2 : ℝ) : EReal) := by
  simp [Ideal.ofBits, Ideal.ieee, -EReal.coe_mul]; norm_num
@[inherit_doc lit_zero] theorem lit_one : Ideal.ofBits .f32 0x3F800000#32 = ((1 : ℝ) : EReal) := by
  simp [Ideal.ofBits, Ideal.ieee, -EReal.coe_mul]; norm_num
@[inherit_doc lit_zero] theorem lit_two : Ideal.ofBits .f32 0x40000000#32 = ((2 : ℝ) : EReal) := by
  simp [Ideal.ofBits, Ideal.ieee, -EReal.coe_mul]; norm_num
@[inherit_doc lit_zero] theorem lit_four : Ideal.ofBits .f32 0x40800000#32 = ((4 : ℝ) : EReal) := by
  simp [Ideal.ofBits, Ideal.ieee, -EReal.coe_mul]; norm_num
@[inherit_doc lit_zero] theorem lit_six : Ideal.ofBits .f32 0x40C00000#32 = ((6 : ℝ) : EReal) := by
  simp [Ideal.ofBits, Ideal.ieee, -EReal.coe_mul]; norm_num
@[inherit_doc lit_zero] theorem lit_256th : Ideal.ofBits .f32 0x3B800000#32 = ((1 / 256 : ℝ) : EReal) := by
  simp [Ideal.ofBits, Ideal.ieee, -EReal.coe_mul]; norm_num
@[inherit_doc lit_zero] theorem lit_quarter : Ideal.ofBits .f32 0x3E800000#32 = ((1 / 4 : ℝ) : EReal) := by
  simp [Ideal.ofBits, Ideal.ieee, -EReal.coe_mul]; norm_num
@[inherit_doc lit_zero] theorem lit_neg_quarter : Ideal.ofBits .f32 0xBE800000#32 = ((-1 / 4 : ℝ) : EReal) := by
  simp [Ideal.ofBits, Ideal.ieee, -EReal.coe_mul]; norm_num
@[inherit_doc lit_zero] theorem blit_zero : Ideal.ofBits .bf16 0x0000#16 = ((0 : ℝ) : EReal) := by
  simp [Ideal.ofBits, Ideal.ieee, -EReal.coe_mul]
@[inherit_doc lit_zero] theorem blit_half : Ideal.ofBits .bf16 0x3F00#16 = ((1 / 2 : ℝ) : EReal) := by
  simp [Ideal.ofBits, Ideal.ieee, -EReal.coe_mul]; norm_num
@[inherit_doc lit_zero] theorem blit_one : Ideal.ofBits .bf16 0x3F80#16 = ((1 : ℝ) : EReal) := by
  simp [Ideal.ofBits, Ideal.ieee, -EReal.coe_mul]; norm_num
@[inherit_doc lit_zero] theorem blit_three_halves : Ideal.ofBits .bf16 0x3FC0#16 = ((3 / 2 : ℝ) : EReal) := by
  simp [Ideal.ofBits, Ideal.ieee, -EReal.coe_mul]; norm_num
@[inherit_doc lit_zero] theorem blit_two : Ideal.ofBits .bf16 0x4000#16 = ((2 : ℝ) : EReal) := by
  simp [Ideal.ofBits, Ideal.ieee, -EReal.coe_mul]; norm_num
@[inherit_doc lit_zero] theorem blit_three : Ideal.ofBits .bf16 0x4040#16 = ((3 : ℝ) : EReal) := by
  simp [Ideal.ofBits, Ideal.ieee, -EReal.coe_mul]; norm_num
@[inherit_doc lit_zero] theorem blit_four : Ideal.ofBits .bf16 0x4080#16 = ((4 : ℝ) : EReal) := by
  simp [Ideal.ofBits, Ideal.ieee, -EReal.coe_mul]; norm_num
@[inherit_doc lit_zero] theorem blit_six : Ideal.ofBits .bf16 0x40C0#16 = ((6 : ℝ) : EReal) := by
  simp [Ideal.ofBits, Ideal.ieee, -EReal.coe_mul]; norm_num

/-! ## Comparisons -/

/-- A select on a decided proposition. -/
theorem select_ofBool {α : Type} (p : Prop) [Decidable p] (a b : α) :
    Scalar.select (BitVec.ofBool (decide p)) a b = if p then a else b := by
  by_cases h : p <;> simp [h, Scalar.select]

/-- A select on "less". -/
theorem select_olt {α : Type} (x y : EReal) (a b : α) : Scalar.select (Ideal.cmp .olt x y) a b = if x < y then a else b :=
  select_ofBool _ _ _

/-- A select on "equal". -/
theorem select_oeq {α : Type} (x y : EReal) (a b : α) : Scalar.select (Ideal.cmp .oeq x y) a b = if x = y then a else b :=
  select_ofBool _ _ _

/-! ## The kernel's and the reference's scalar functions -/

/-- The magnitude, at most 6. -/
def mag (w : EReal) : EReal := min (max w (-w)) (Ideal.ofBits .f32 0x40C00000#32)

/-- The kernel's step of the upper binades. -/
def kHi (m : EReal) : EReal :=
  Scalar.select (Ideal.cmp .olt m (Ideal.ofBits .f32 0x40800000#32)) (Ideal.ofBits .f32 0x40000000#32) (Ideal.ofBits .f32 0x40800000#32)

/-- The kernel's step. -/
def kStep (m : EReal) : EReal :=
  Scalar.select (Ideal.cmp .olt m (Ideal.ofBits .f32 0x40000000#32)) (Ideal.ofBits .f32 0x3F800000#32) (kHi m)

/-- The kernel's count of units. -/
def kUnits (m : EReal) : EReal := m * Ideal.div (Ideal.ofBits .f32 0x40000000#32) (kStep m)

/-- The kernel's value of `t` units. -/
def kOf (m t : EReal) : EReal := t * Ideal.ofBits .f32 0x3F000000#32 * kStep m

/-- The value `q` with the sign of `w`. -/
def kSigned (w q : EReal) : EReal :=
  Scalar.select (Ideal.cmp .olt w (Ideal.ofBits .f32 0x00000000#32)) (Ideal.ofBits .f32 0x00000000#32 - q) q

/-- The kernel's rounding to nearest even. -/
def kF4 (w : EReal) : EReal := kSigned w (kOf (mag w) (Ideal.liftRound Ideal.roundHalfEven (kUnits (mag w))))

/-- The kernel's code. -/
def kNib (w : EReal) : BitVec 32 :=
  IntOp.ori (Ideal.fptosi 32 (Ideal.liftRound Ideal.roundHalfEven (kUnits (mag w))
      + Scalar.select (Ideal.cmp .olt (mag w) (Ideal.ofBits .f32 0x40000000#32)) (Ideal.ofBits .f32 0x00000000#32) (kHi (mag w))))
    (Scalar.select (Ideal.cmp .olt w (Ideal.ofBits .f32 0x00000000#32)) 8#32 0#32)

/-- The random byte as a number between 0 and 1. -/
def uOf (b : BitVec 8) : EReal := (((b.toNat : ℝ) : EReal) + Ideal.ofBits .f32 0x3F000000#32) * Ideal.ofBits .f32 0x3B800000#32

/-- The kernel's stochastic rounding. -/
def kSr (w : EReal) (b : BitVec 8) : EReal :=
  kSigned w (kOf (mag w) (Ideal.liftRound Int.ceil (kUnits (mag w) - uOf b)))

/-- The reference's step. -/
def rStep (m : EReal) : EReal :=
  Scalar.select (Ideal.cmp .olt m (Ideal.ofBits .f32 0x40000000#32)) (Ideal.ofBits .f32 0x3F000000#32)
    (Scalar.select (Ideal.cmp .olt m (Ideal.ofBits .f32 0x40800000#32)) (Ideal.ofBits .f32 0x3F800000#32) (Ideal.ofBits .f32 0x40000000#32))

/-- The reference's rounding to nearest even, of the magnitude. -/
def rRne (w : EReal) : EReal :=
  Ideal.liftRound Ideal.roundHalfEven (Ideal.div (mag w) (rStep (mag w))) * rStep (mag w)

/-- The reference's stochastic rounding, of the magnitude. -/
def rSr (w u : EReal) : EReal :=
  (Ideal.liftRound Int.floor (Ideal.div (mag w) (rStep (mag w)))
    + ((((Ideal.cmp .ogt (Ideal.div (mag w) (rStep (mag w)) - Ideal.liftRound Int.floor (Ideal.div (mag w) (rStep (mag w)))) u).setWidth 32).toInt : ℝ) : EReal))
    * rStep (mag w)

/-- The reference's index of a value, as a number. -/
def rIdx (q : EReal) : EReal :=
  Scalar.select (Ideal.cmp .olt q (Ideal.ofBits .f32 0x40000000#32)) (Ideal.ofBits .f32 0x40000000#32 * q)
    (Scalar.select (Ideal.cmp .olt q (Ideal.ofBits .f32 0x40800000#32)) (q + Ideal.ofBits .f32 0x40000000#32)
      (q * Ideal.ofBits .f32 0x3F000000#32 + Ideal.ofBits .f32 0x40800000#32))

/-- The reference's code. -/
def rNib (w q : EReal) : BitVec 32 :=
  IntOp.addi (Ideal.fptosi 32 (rIdx q))
    (IntOp.muli ((IntOp.andi (Ideal.cmp .olt w (Ideal.ofBits .f32 0x00000000#32)) (Ideal.cmp .ogt q (Ideal.ofBits .f32 0x00000000#32))).setWidth 32) 8#32)

/-- The reference's value of a code. -/
def rDec (n : BitVec 32) : EReal :=
  have bit (k : BitVec 32) : BitVec 1 := IntOp.cmpi .ne (IntOp.andi n k) 0#32
  have m : EReal :=
    Scalar.select (bit 4#32)
      (Scalar.select (bit 2#32)
        (Scalar.select (bit 1#32) (Ideal.ofBits .bf16 0x40C0#16) (Ideal.ofBits .bf16 0x4080#16))
        (Scalar.select (bit 1#32) (Ideal.ofBits .bf16 0x4040#16) (Ideal.ofBits .bf16 0x4000#16)))
      (Scalar.select (bit 2#32)
        (Scalar.select (bit 1#32) (Ideal.ofBits .bf16 0x3FC0#16) (Ideal.ofBits .bf16 0x3F80#16))
        (Scalar.select (bit 1#32) (Ideal.ofBits .bf16 0x3F00#16) (Ideal.ofBits .bf16 0x0000#16)))
  Scalar.select (bit 8#32) (-m) m

/-! ## The eight magnitudes -/

/-- The eight magnitudes of the format. -/
def tbl : Fin 8 → ℝ
  | 0 => 0
  | 1 => 1 / 2
  | 2 => 1
  | 3 => 3 / 2
  | 4 => 2
  | 5 => 3
  | 6 => 4
  | 7 => 6

/-- The magnitude is a real number between 0 and 6. -/
theorem mag_real (w : EReal) : ∃ m : ℝ, 0 ≤ m ∧ m ≤ 6 ∧ mag w = (m : EReal) := by
  have h0 : (0 : EReal) ≤ max w (-w) := by
    rcases le_total 0 w with h | h
    · exact le_max_of_le_left h
    · exact le_max_of_le_right (by simpa using EReal.neg_le_neg_iff.2 h)
  unfold mag
  rw [lit_six]
  generalize max w (-w) = a at h0
  induction a using EReal.rec with
  | bot => simp at h0
  | top => exact ⟨6, by norm_num, le_refl _, by simp⟩
  | coe r =>
    refine ⟨min r 6, le_min (by exact_mod_cast h0) (by norm_num), min_le_right _ _, ?_⟩
    rcases le_total r 6 with h | h
    · rw [min_eq_left h, min_eq_left (by exact_mod_cast h)]
    · rw [min_eq_right h, min_eq_right (by exact_mod_cast h)]

/-- The kernel's step of a real magnitude. -/
def st (m : ℝ) : ℝ := if m < 2 then 1 else if m < 4 then 2 else 4

/-- What the kernel adds to the count of units to have the code. -/
def off (m : ℝ) : ℝ := if m < 2 then 0 else if m < 4 then 2 else 4

/-- The step is positive. -/
theorem st_pos (m : ℝ) : 0 < st m := by unfold st; split_ifs <;> norm_num

/-- The kernel's choice between 2 and 4 at a real value. -/
theorem kHi_coe (m : ℝ) : kHi m = ((if m < 4 then 2 else 4 : ℝ) : EReal) := by
  unfold kHi
  rw [select_olt, lit_four, lit_two]
  simp only [EReal.coe_lt_coe_iff]
  split_ifs <;> rfl

/-- The kernel's step at a real value is `st` there. -/
theorem kStep_coe (m : ℝ) : kStep m = ((st m : ℝ) : EReal) := by
  unfold kStep st
  rw [select_olt, kHi_coe, lit_two, lit_one]
  simp only [EReal.coe_lt_coe_iff]
  split_ifs <;> rfl

/-- The magnitude the kernel rounds, at a real value: twice it over the step. -/
theorem kUnits_coe (m : ℝ) : kUnits m = ((2 * m / st m : ℝ) : EReal) := by
  unfold kUnits
  rw [kStep_coe, lit_two, Ideal.div_coe (st_pos m).ne', ← EReal.coe_mul, ← EReal.coe_mul]
  congr 1; ring

/-- The reference's step at a real value is half the kernel's. -/
theorem rStep_coe (m : ℝ) : rStep m = ((st m / 2 : ℝ) : EReal) := by
  unfold rStep st
  rw [select_olt, select_olt, lit_four, lit_two, lit_one, lit_half]
  simp only [EReal.coe_lt_coe_iff]
  split_ifs <;> norm_num

/-- The magnitude the reference rounds, at a real value: twice it over the kernel's step. -/
theorem rUnits_coe (m : ℝ) : Ideal.div (m : EReal) (rStep m) = ((2 * m / st m : ℝ) : EReal) := by
  have h := (st_pos m).ne'
  rw [rStep_coe, Ideal.div_coe (div_ne_zero h two_ne_zero), ← EReal.coe_mul]
  congr 1; field_simp

/-- A count of units as a code and as a value. -/
theorem code_of (m : ℝ) (t : ℤ)
    (h : (m < 2 ∧ 0 ≤ t ∧ t ≤ 4) ∨ (2 ≤ m ∧ m < 4 ∧ 2 ≤ t ∧ t ≤ 4) ∨ (4 ≤ m ∧ 2 ≤ t ∧ t ≤ 3)) :
    ∃ c : Fin 8, (t : ℝ) + off m = (c.val : ℝ) ∧ (t : ℝ) * (1 / 2) * st m = tbl c := by
  rcases h with ⟨h, h1, h2⟩ | ⟨h, h', h1, h2⟩ | ⟨h, h1, h2⟩
  · have ho : off m = 0 := by unfold off; rw [if_pos h]
    have hs : st m = 1 := by unfold st; rw [if_pos h]
    rw [ho, hs]
    interval_cases t
    · exact ⟨0, by norm_num, by norm_num [tbl]⟩
    · exact ⟨1, by norm_num, by norm_num [tbl]⟩
    · exact ⟨2, by norm_num, by norm_num [tbl]⟩
    · exact ⟨3, by norm_num, by norm_num [tbl]⟩
    · exact ⟨4, by norm_num, by norm_num [tbl]⟩
  · have ho : off m = 2 := by unfold off; rw [if_neg (by linarith), if_pos h']
    have hs : st m = 2 := by unfold st; rw [if_neg (by linarith), if_pos h']
    rw [ho, hs]
    interval_cases t
    · exact ⟨4, by norm_num, by norm_num [tbl]⟩
    · exact ⟨5, by norm_num, by norm_num [tbl]⟩
    · exact ⟨6, by norm_num, by norm_num [tbl]⟩
  · have ho : off m = 4 := by unfold off; rw [if_neg (by linarith), if_neg (by linarith)]
    have hs : st m = 4 := by unfold st; rw [if_neg (by linarith), if_neg (by linarith)]
    rw [ho, hs]
    interval_cases t
    · exact ⟨6, by norm_num, by norm_num [tbl]⟩
    · exact ⟨7, by norm_num, by norm_num [tbl]⟩

/-- The range of the count of units. -/
theorem units_range (m : ℝ) (h0 : 0 ≤ m) (h6 : m ≤ 6) :
    (m < 2 ∧ 0 ≤ 2 * m / st m ∧ 2 * m / st m ≤ 4) ∨ (2 ≤ m ∧ m < 4 ∧ 2 ≤ 2 * m / st m ∧ 2 * m / st m ≤ 4) ∨
      (4 ≤ m ∧ 2 ≤ 2 * m / st m ∧ 2 * m / st m ≤ 3) := by
  unfold st
  by_cases h2 : m < 2
  · exact .inl ⟨h2, by rw [if_pos h2]; linarith, by rw [if_pos h2]; linarith⟩
  · by_cases h4 : m < 4
    · exact .inr (.inl ⟨by linarith, h4, by rw [if_neg h2, if_pos h4]; linarith, by rw [if_neg h2, if_pos h4]; linarith⟩)
    · exact .inr (.inr ⟨by linarith, by rw [if_neg h2, if_neg h4]; linarith, by rw [if_neg h2, if_neg h4]; linarith⟩)

/-- A rounding keeps integer bounds. -/
theorem code_of_round (f : ℝ → ℤ) (hlo : ∀ (a : ℤ) (r : ℝ), (a : ℝ) ≤ r → a ≤ f r) (hhi : ∀ (a : ℤ) (r : ℝ), r ≤ (a : ℝ) → f r ≤ a)
    (m : ℝ) (h0 : 0 ≤ m) (h6 : m ≤ 6) :
    ∃ c : Fin 8, (f (2 * m / st m) : ℝ) + off m = (c.val : ℝ) ∧ (f (2 * m / st m) : ℝ) * (1 / 2) * st m = tbl c := by
  refine code_of m _ ?_
  rcases units_range m h0 h6 with ⟨a, b, c⟩ | ⟨a, a', b, c⟩ | ⟨a, b, c⟩
  · exact .inl ⟨a, hlo 0 _ (by exact_mod_cast b), hhi 4 _ (by exact_mod_cast c)⟩
  · exact .inr (.inl ⟨a, a', hlo 2 _ (by exact_mod_cast b), hhi 4 _ (by exact_mod_cast c)⟩)
  · exact .inr (.inr ⟨a, hlo 2 _ (by exact_mod_cast b), hhi 3 _ (by exact_mod_cast c)⟩)

/-- Rounding to the nearest integer does not go below an integer the value is not below. -/
theorem rhe_lo (a : ℤ) (r : ℝ) (h : (a : ℝ) ≤ r) : a ≤ Ideal.roundHalfEven r := by
  have : a ≤ ⌊r⌋ := Int.le_floor.2 h
  unfold Ideal.roundHalfEven
  dsimp only
  split_ifs <;> omega

/-- Rounding to the nearest integer does not go above an integer the value is not above. -/
theorem rhe_hi (a : ℤ) (r : ℝ) (h : r ≤ (a : ℝ)) : Ideal.roundHalfEven r ≤ a := by
  unfold Ideal.roundHalfEven
  dsimp only
  by_cases e : r = a
  · subst e; simp
  · have hlt : r < a := lt_of_le_of_ne h e
    have : ⌊r⌋ < a := Int.floor_lt.2 hlt
    split_ifs <;> omega

/-- The conversion of a small natural number to an integer. -/
theorem fptosi_nat (c : Fin 8) : Ideal.fptosi 32 (((c.val : ℝ)) : EReal) = BitVec.ofNat 32 c.val := by
  have hc : (0 : ℝ) ≤ (c.val : ℝ) := Nat.cast_nonneg _
  have := c.isLt
  unfold Ideal.fptosi
  rw [Ideal.toIntClamped_coe, if_pos hc, Int.floor_natCast, min_eq_right (by omega), max_eq_right (by omega)]
  rfl

/-- The reference's index of a magnitude of the format is its number. -/
theorem rIdx_tbl (c : Fin 8) : Ideal.fptosi 32 (rIdx (tbl c)) = BitVec.ofNat 32 c.val := by
  rw [← fptosi_nat]
  congr 1
  unfold rIdx
  rw [select_olt, select_olt, lit_four, lit_two, lit_half]
  simp only [EReal.coe_lt_coe_iff, ← EReal.coe_mul, ← EReal.coe_add]
  fin_cases c <;> norm_num [tbl]

/-- The kernel's code and value, and the reference's value, rounding to nearest even. -/
theorem rne (w : EReal) : ∃ c : Fin 8,
    kNib w = IntOp.ori (BitVec.ofNat 32 c.val) (if w < 0 then 8#32 else 0#32) ∧ kF4 w = kSigned w (tbl c) ∧ rRne w = (tbl c : EReal) := by
  obtain ⟨m, h0, h6, hm⟩ := mag_real w
  obtain ⟨c, h1, h2⟩ := code_of_round Ideal.roundHalfEven rhe_lo rhe_hi m h0 h6
  refine ⟨c, ?_, ?_, ?_⟩
  · unfold kNib
    rw [hm, kUnits_coe, kHi_coe, select_olt, select_olt, lit_two, lit_zero, Ideal.liftRound_coe]
    simp only [EReal.coe_lt_coe_iff, EReal.coe_zero]
    rw [← fptosi_nat, ← h1]
    congr 2
    rw [off]
    split_ifs <;> norm_num
  · unfold kF4 kOf
    rw [hm, kUnits_coe, kStep_coe, lit_half, Ideal.liftRound_coe, ← EReal.coe_mul, ← EReal.coe_mul, h2]
  · unfold rRne
    rw [hm, rUnits_coe, rStep_coe, Ideal.liftRound_coe, ← EReal.coe_mul, ← h2]
    congr 1; ring

/-- The random number of a byte lies strictly between 0 and 1. -/
theorem uOf_real (b : BitVec 8) : ∃ u : ℝ, 0 < u ∧ u < 1 ∧ uOf b = (u : EReal) := by
  refine ⟨((b.toNat : ℝ) + 1 / 2) * (1 / 256), by positivity, ?_, ?_⟩
  · have : (b.toNat : ℝ) ≤ 255 := by exact_mod_cast Nat.le_of_lt_succ b.isLt
    linarith
  · unfold uOf
    rw [lit_half, lit_256th, ← EReal.coe_add, ← EReal.coe_mul]

/-- Rounding up a number less a fraction is rounding it down, plus one where its own fraction is larger. -/
theorem ceil_sub (r u : ℝ) (h0 : 0 < u) (h1 : u < 1) : (⌈r - u⌉ : ℤ) = ⌊r⌋ + (if u < r - ⌊r⌋ then 1 else 0) := by
  have a := Int.floor_le r
  have b := Int.lt_floor_add_one r
  split_ifs with h
  · rw [Int.ceil_eq_iff]; push_cast; constructor <;> linarith
  · rw [Int.ceil_eq_iff]; push_cast; constructor <;> linarith

/-- The kernel's and the reference's values, rounding stochastically. -/
theorem sr (w : EReal) (b : BitVec 8) : ∃ c : Fin 8,
    kSr w b = kSigned w (tbl c) ∧ rSr w (uOf b) = (tbl c : EReal) := by
  obtain ⟨m, h0, h6, hm⟩ := mag_real w
  obtain ⟨u, u0, u1, hu⟩ := uOf_real b
  obtain ⟨c, h1, h2⟩ := code_of_round (fun r => ⌈r - u⌉)
    (fun a r h => by
      have : ((a - 1 : ℤ) : ℝ) < r - u := by push_cast; linarith
      have := Int.lt_ceil.2 this
      show a ≤ ⌈r - u⌉
      omega)
    (fun a r h => Int.ceil_le.2 (by linarith)) m h0 h6
  refine ⟨c, ?_, ?_⟩
  · unfold kSr kOf
    rw [hm, kUnits_coe, kStep_coe, hu, lit_half, ← EReal.coe_sub, Ideal.liftRound_coe, ← EReal.coe_mul, ← EReal.coe_mul, h2]
  · unfold rSr
    rw [hm, rUnits_coe, rStep_coe, hu, Ideal.liftRound_coe, ← EReal.coe_sub]
    have e := ceil_sub (2 * m / st m) u u0 u1
    rw [← h2, e]
    have hc : (((Ideal.cmp .ogt (((2 * m / st m - (⌊2 * m / st m⌋ : ℝ) : ℝ)) : EReal) (u : EReal)).setWidth 32).toInt : ℝ)
        = if u < 2 * m / st m - (⌊2 * m / st m⌋ : ℝ) then 1 else 0 := by
      unfold Ideal.cmp
      simp only [EReal.coe_lt_coe_iff]
      by_cases h : u < 2 * m / st m - (⌊2 * m / st m⌋ : ℝ)
      · rw [if_pos h, decide_eq_true h, show ((BitVec.ofBool true).setWidth 32).toInt = 1 from by decide]; norm_num
      · rw [if_neg h, decide_eq_false h, show ((BitVec.ofBool false).setWidth 32).toInt = 0 from by decide]; norm_num
    rw [hc, ← EReal.coe_add, ← EReal.coe_mul]
    congr 1
    push_cast
    split_ifs <;> norm_num <;> ring

/-- Rounding a magnitude of the format to nearest even keeps it. -/
theorem rne_tbl (w : EReal) (c : Fin 8) (h : mag w = (tbl c : EReal)) :
    kNib w = IntOp.ori (BitVec.ofNat 32 c.val) (if w < 0 then 8#32 else 0#32) ∧ kF4 w = kSigned w (tbl c) := by
  have key : (Ideal.roundHalfEven (2 * tbl c / st (tbl c)) : ℝ) + off (tbl c) = (c.val : ℝ) ∧
      (Ideal.roundHalfEven (2 * tbl c / st (tbl c)) : ℝ) * (1 / 2) * st (tbl c) = tbl c := by
    have hi : ∀ n : ℤ, Ideal.roundHalfEven (n : ℝ) = n := fun n => le_antisymm (rhe_hi n _ (le_refl _)) (rhe_lo n _ (le_refl _))
    have : ∃ n : ℤ, 2 * tbl c / st (tbl c) = (n : ℝ) ∧ (n : ℝ) + off (tbl c) = (c.val : ℝ) ∧ (n : ℝ) * (1 / 2) * st (tbl c) = tbl c := by
      fin_cases c
      · exact ⟨0, by norm_num [tbl, st, off], by norm_num [tbl, st, off], by norm_num [tbl, st, off]⟩
      · exact ⟨1, by norm_num [tbl, st, off], by norm_num [tbl, st, off], by norm_num [tbl, st, off]⟩
      · exact ⟨2, by norm_num [tbl, st, off], by norm_num [tbl, st, off], by norm_num [tbl, st, off]⟩
      · exact ⟨3, by norm_num [tbl, st, off], by norm_num [tbl, st, off], by norm_num [tbl, st, off]⟩
      · exact ⟨2, by norm_num [tbl, st, off], by norm_num [tbl, st, off], by norm_num [tbl, st, off]⟩
      · exact ⟨3, by norm_num [tbl, st, off], by norm_num [tbl, st, off], by norm_num [tbl, st, off]⟩
      · exact ⟨2, by norm_num [tbl, st, off], by norm_num [tbl, st, off], by norm_num [tbl, st, off]⟩
      · exact ⟨3, by norm_num [tbl, st, off], by norm_num [tbl, st, off], by norm_num [tbl, st, off]⟩
    obtain ⟨n, e, h1, h2⟩ := this
    rw [e, hi]; exact ⟨h1, h2⟩
  constructor
  · unfold kNib
    rw [h, kUnits_coe, kHi_coe, select_olt, select_olt, lit_two, lit_zero, Ideal.liftRound_coe]
    simp only [EReal.coe_lt_coe_iff, EReal.coe_zero]
    rw [← fptosi_nat, ← key.1]
    congr 2
    rw [off]
    split_ifs <;> norm_num
  · unfold kF4 kOf
    rw [h, kUnits_coe, kStep_coe, lit_half, Ideal.liftRound_coe, ← EReal.coe_mul, ← EReal.coe_mul, key.2]

/-! ## Codes that agree -/

/-- A kernel's code and value and a reference's code agree: they have one magnitude and, up to the sign of zero, one sign. -/
def Agree (nibK : BitVec 32) (valK : EReal) (nibR : BitVec 32) : Prop :=
  ∃ (c : Fin 8) (s : Bool), nibK = BitVec.ofNat 32 (c.val + if s then 8 else 0) ∧
    nibR = BitVec.ofNat 32 (c.val + if s && decide (c.val ≠ 0) then 8 else 0) ∧
    valK = ((if s then -tbl c else tbl c : ℝ) : EReal)

/-- The kernel's signed value of a value of the format. -/
theorem kSigned_tbl (w : EReal) (c : Fin 8) : kSigned w (tbl c) = ((if w < 0 then -tbl c else tbl c : ℝ) : EReal) := by
  unfold kSigned
  rw [select_olt, lit_zero]
  by_cases h : w < 0
  · simp [h]
  · simp [h]

/-- A value of the format is positive unless its code is zero. -/
theorem tbl_pos (c : Fin 8) : 0 < tbl c ↔ c.val ≠ 0 := by fin_cases c <;> norm_num [tbl]

/-- The magnitudes of the format are between 0 and 6. -/
theorem tbl_range (c : Fin 8) : 0 ≤ tbl c ∧ tbl c ≤ 6 := by fin_cases c <;> norm_num [tbl]

/-- The reference's code of a value of the format. -/
theorem rNib_tbl (w : EReal) (c : Fin 8) :
    rNib w (tbl c) = BitVec.ofNat 32 (c.val + if (decide (w < 0)) && decide (c.val ≠ 0) then 8 else 0) := by
  have h : Ideal.cmp .ogt (tbl c : EReal) (Ideal.ofBits .f32 0x00000000#32) = BitVec.ofBool (decide (c.val ≠ 0)) := by
    unfold Ideal.cmp
    rw [lit_zero]
    simp only [EReal.coe_lt_coe_iff, tbl_pos]
  have h' : Ideal.cmp .olt w (Ideal.ofBits .f32 0x00000000#32) = BitVec.ofBool (decide (w < 0)) := by
    unfold Ideal.cmp
    rw [lit_zero, EReal.coe_zero]
  unfold rNib
  rw [rIdx_tbl, h, h']
  clear h h'
  generalize decide (w < 0) = s
  revert c s
  decide

/-- Setting the sign bit of a three-bit code adds 8 to it. -/
theorem ori_sign (c : Fin 8) (s : Bool) :
    IntOp.ori (BitVec.ofNat 32 c.val) (if s = true then 8#32 else 0#32) = BitVec.ofNat 32 (c.val + if s then 8 else 0) := by
  revert c s; decide

/-- Rounding to nearest even, kernel and reference agree. -/
theorem agree_rne (w : EReal) : Agree (kNib w) (kF4 w) (rNib w (rRne w)) := by
  obtain ⟨c, h1, h2, h3⟩ := rne w
  refine ⟨c, decide (w < 0), ?_, ?_, ?_⟩
  · rw [h1, ← ori_sign]; simp
  · rw [h3, rNib_tbl]
  · rw [h2, kSigned_tbl]; simp

/-- Rounding stochastically, kernel and reference agree. -/
theorem agree_sr (w : EReal) (b : BitVec 8) : Agree (kNib (kSr w b)) (kF4 (kSr w b)) (rNib w (rSr w (uOf b))) := by
  obtain ⟨c, h1, h2⟩ := sr w b
  rw [h1, h2, rNib_tbl, kSigned_tbl]
  have hr := tbl_range c
  have hm : mag (((if w < 0 then -tbl c else tbl c : ℝ)) : EReal) = (tbl c : EReal) := by
    unfold mag
    rw [lit_six, ← EReal.coe_neg]
    split_ifs
    · rw [neg_neg, max_eq_right (by exact_mod_cast by linarith), min_eq_left (by exact_mod_cast hr.2)]
    · rw [max_eq_left (by exact_mod_cast by linarith), min_eq_left (by exact_mod_cast hr.2)]
  obtain ⟨e1, e2⟩ := rne_tbl _ c hm
  have hs : ((((if w < 0 then -tbl c else tbl c : ℝ)) : EReal) < 0) ↔ (decide (w < 0) && decide (c.val ≠ 0)) = true := by
    rw [Bool.and_eq_true, decide_eq_true_eq, decide_eq_true_eq, ← tbl_pos]
    by_cases h : w < 0
    · simp only [h, if_true, true_and]
      rw [← EReal.coe_zero, EReal.coe_lt_coe_iff]; constructor <;> intro _ <;> linarith
    · simp only [h, if_false, false_and, iff_false]
      rw [← EReal.coe_zero, EReal.coe_lt_coe_iff]; linarith [hr.1]
  refine ⟨c, decide (w < 0) && decide (c.val ≠ 0), ?_, ?_, ?_⟩
  · rw [e1, ← ori_sign]; simp only [hs]
  · congr 3; simp
  · rw [e2, kSigned_tbl]; simp only [hs]

/-- A kernel code that agrees with a reference code has four bits. -/
theorem Agree.lt_k {a r : BitVec 32} {v : EReal} (h : Agree a v r) : a.toNat < 16 := by
  obtain ⟨c, s, rfl, -, -⟩ := h; revert c s; decide

/-- A reference code that agrees with a kernel code has four bits. -/
theorem Agree.lt_r {a r : BitVec 32} {v : EReal} (h : Agree a v r) : r.toNat < 16 := by
  obtain ⟨c, s, -, rfl, -⟩ := h; revert c s; decide

/-- A four-bit code with a negative zero made a zero. -/
def clr4 (x : BitVec 4) : BitVec 4 := x &&& (((x &&& 7#4) + 7#4) ||| 7#4)

/-- Agreeing codes are one, a negative zero made a zero. -/
theorem Agree.clr {a r : BitVec 32} {v : EReal} (h : Agree a v r) : clr4 (a.setWidth 4) = r.setWidth 4 := by
  obtain ⟨c, s, rfl, rfl, -⟩ := h; revert c s; decide

/-- The reference's value of its code is the kernel's value. -/
theorem Agree.dec {a r : BitVec 32} {v : EReal} (h : Agree a v r) : rDec r = v := by
  obtain ⟨c, s, -, rfl, rfl⟩ := h
  unfold rDec
  rw [blit_zero, blit_half, blit_one, blit_three_halves, blit_two, blit_three, blit_four, blit_six]
  fin_cases c <;> cases s <;> simp [tbl, Scalar.select, IntOp.cmpi, IntOp.andi]

end Mxfp4
-- ==== Proof.Rht.lean ====
/-
  The random Hadamard transform: the kernel's matrix entry by entry, and the product by it as sixteen-term sums.
-/
module

public import proofs.«01_k».proof.Proof.Tile
public import Mathlib.Tactic.FinCases
public import Mathlib.Tactic.NormNum
public import proofs.«01_k».proof.Proof.Scalar

@[expose] public section

noncomputable section

namespace Mxfp4

open Idealize.ShloMosaic

/-- An index of a matrix. -/
def ix2 {a b : Nat} (i : Fin a) (j : Fin b) : (S2 a b).Idx := fun x => match x with
  | ⟨0, _⟩ => i
  | ⟨1, _⟩ => j

/-- An index of a stack of matrices. -/
def ix3 {a b c : Nat} (i : Fin a) (j : Fin b) (k : Fin c) : (S3 a b c).Idx := fun x => match x with
  | ⟨0, _⟩ => i
  | ⟨1, _⟩ => j
  | ⟨2, _⟩ => k

/-- A two-axis index is the index of its two coordinates. -/
theorem ix2_eta {a b : Nat} (y : (S2 a b).Idx) : ix2 (y 0) (y 1) = y := funext fun x => match x with
  | ⟨0, _⟩ => rfl
  | ⟨1, _⟩ => rfl

/-- Whether the number of common bits of two lane numbers is odd. -/
def odd4 (i k : Fin 16) : Bool :=
  IntOp.andi (IntOp.ctpop (IntOp.andi (BitVec.ofNat 32 i.val) (BitVec.ofNat 32 k.val))) 1#32 == 1#32

/-- The entry of the signed Hadamard matrix over 4. -/
def hEntry (s : Fin 16 → EReal) (i k : Fin 16) : EReal :=
  (((if odd4 i k then -1 else 1 : ℝ)) : EReal) * s k * ((1 / 4 : ℝ) : EReal)

/-- The transform of sixteen values. -/
def hSum (s x : Fin 16 → EReal) (i : Fin 16) : EReal := ∑ k : Fin 16, x k * hEntry s i k

/-- The lane number modulo 16, read. -/
theorem laneT_apply (j : Fin 256) : laneT (ix2 0 j) = BitVec.ofNat 32 (j.val % 16) := by
  have h : laneT (ix2 0 j) = IntOp.andi (BitVec.ofNat 32 j.val) 15#32 := by
    unfold laneT
    exact congrArg (fun z => IntOp.andi z 15#32) (iota_single_apply _ _ _ _ _ _)
  rw [h]
  revert j; decide +kernel

/-- Comparing two small numbers as words. -/
theorem cmp_ofNat (a b : Nat) (ha : a < 2 ^ 32) (hb : b < 2 ^ 32) :
    IntOp.cmpi .eq (BitVec.ofNat 32 a) (BitVec.ofNat 32 b) = BitVec.ofBool (decide (a = b)) := by
  unfold IntOp.cmpi
  congr 1
  rw [Bool.eq_iff_iff]
  simp only [beq_iff_eq, decide_eq_true_eq]
  constructor
  · intro h
    have := congrArg BitVec.toNat h
    rwa [BitVec.toNat_ofNat, BitVec.toNat_ofNat, Nat.mod_eq_of_lt ha, Nat.mod_eq_of_lt hb] at this
  · intro h; rw [h]

/-- One step of the sign row: sign `s` at the lanes congruent to `k` modulo 16, the row so far elsewhere. -/
theorem laneSel_apply (k : Nat) (hk : k < 16) (s : EReal) (r : FVec Ideal (S2 1 256) .f32) (j : Fin 256) :
    laneSel (BitVec.ofNat 32 k) s r (ix2 0 j) = if j.val % 16 = k then s else r (ix2 0 j) := by
  have h : laneSel (BitVec.ofNat 32 k) s r (ix2 0 j)
      = Scalar.select (IntOp.cmpi .eq (laneT (ix2 0 j)) (BitVec.ofNat 32 k)) s (r (ix2 0 j)) := rfl
  rw [h, laneT_apply, cmp_ofNat _ _ (by omega) (by omega), select_ofBool]

/-- The row of signs, read. -/
theorem signRow_apply (s : Fin 16 → EReal) (j : Fin 256) : signRow s (ix2 0 j) = s ⟨j.val % 16, Nat.mod_lt _ (by decide)⟩ := by
  unfold signRow
  rw [laneSel_apply 15 (by decide), laneSel_apply 14 (by decide), laneSel_apply 13 (by decide), laneSel_apply 12 (by decide),
    laneSel_apply 11 (by decide), laneSel_apply 10 (by decide), laneSel_apply 9 (by decide), laneSel_apply 8 (by decide),
    laneSel_apply 7 (by decide), laneSel_apply 6 (by decide), laneSel_apply 5 (by decide), laneSel_apply 4 (by decide),
    laneSel_apply 3 (by decide), laneSel_apply 2 (by decide), laneSel_apply 1 (by decide), laneSel_apply 0 (by decide)]
  have key : ∀ (q : Nat) (hq : q < 16) (z : EReal), (if q = 15 then s 15 else if q = 14 then s 14 else if q = 13 then s 13
      else if q = 12 then s 12 else if q = 11 then s 11 else if q = 10 then s 10 else if q = 9 then s 9 else if q = 8 then s 8
      else if q = 7 then s 7 else if q = 6 then s 6 else if q = 5 then s 5 else if q = 4 then s 4 else if q = 3 then s 3
      else if q = 2 then s 2 else if q = 1 then s 1 else if q = 0 then s 0 else z) = s ⟨q, hq⟩ := by
    intro q hq z
    interval_cases q <;> rfl
  exact key _ _ _

/-- The kernel's parity bit of the common bits. -/
def parS (p : BitVec 32) : BitVec 1 :=
  IntOp.cmpi .eq (IntOp.andi (IntOp.xori (IntOp.xori p (IntOp.shrsi .vector p 2#32))
    (IntOp.shrsi .vector (IntOp.xori p (IntOp.shrsi .vector p 2#32)) 1#32)) 1#32) 1#32

/-- The common bits of two numbers below 16 are theirs modulo 16. -/
theorem and15 (i k : Fin 256) : IntOp.andi (IntOp.andi (BitVec.ofNat 32 i.val) (BitVec.ofNat 32 k.val)) 15#32
    = IntOp.andi (BitVec.ofNat 32 (i.val % 16)) (BitVec.ofNat 32 (k.val % 16)) := by
  have hi := i.isLt
  have hk := k.isLt
  apply BitVec.eq_of_toNat_eq
  show (BitVec.ofNat 32 i.val &&& BitVec.ofNat 32 k.val &&& 15#32).toNat = (BitVec.ofNat 32 (i.val % 16) &&& BitVec.ofNat 32 (k.val % 16)).toNat
  rw [BitVec.toNat_and, BitVec.toNat_and, BitVec.toNat_and, BitVec.toNat_ofNat, BitVec.toNat_ofNat, BitVec.toNat_ofNat, BitVec.toNat_ofNat,
    BitVec.toNat_ofNat, Nat.mod_eq_of_lt (show i.val < 2 ^ 32 by omega), Nat.mod_eq_of_lt (show k.val < 2 ^ 32 by omega),
    Nat.mod_eq_of_lt (show i.val % 16 < 2 ^ 32 by omega), Nat.mod_eq_of_lt (show k.val % 16 < 2 ^ 32 by omega)]
  show (i.val &&& k.val) &&& (2 ^ 4 - 1) = _
  rw [Nat.and_two_pow_sub_one_eq_mod, Nat.and_mod_two_pow]

/-- Folding finds the parity. -/
theorem parS_eq (i k : Fin 16) : parS (IntOp.andi (BitVec.ofNat 32 i.val) (BitVec.ofNat 32 k.val)) = BitVec.ofBool (odd4 i k) := by
  revert i k; decide +kernel

/-- Shifting an index below 256 right by four divides it by 16. -/
theorem shift_eq (i : Fin 256) : IntOp.shrsi .vector (BitVec.ofNat 32 i.val) 4#32 = BitVec.ofNat 32 (i.val / 16) := by
  revert i; decide +kernel

/-- The matrix, read. -/
theorem rhtT_apply (hb : FTy.bits .bf16 < FTy.bits .f32) (s : Fin 16 → EReal) (i k : Fin 256) :
    rhtT hb s (ix2 i k) = if i.val / 16 = k.val / 16 then
      hEntry s ⟨i.val % 16, Nat.mod_lt _ (by decide)⟩ ⟨k.val % 16, Nat.mod_lt _ (by decide)⟩ else 0 := by
  have hr : rowN (ix2 i k) = BitVec.ofNat 32 i.val := iota_single_apply _ _ _ _ _ _
  have hc : colN (ix2 i k) = BitVec.ofNat 32 k.val := iota_single_apply _ _ _ _ _ _
  have hs : (broadcastTo (S2 256 256) (signRow s) (by decide) : FVec Ideal (S2 256 256) .f32) (ix2 i k) = signRow s (ix2 0 k) :=
    broadcastTo_apply _ _ _ _ (fun a => match a with
      | ⟨0, _⟩ => rfl
      | ⟨1, _⟩ => rfl)
  unfold rhtT
  rw [shapeCast_self]
  have h : ∀ (z : FVec Ideal (S2 256 256) .f32), z (ix2 i k) = signRow s (ix2 0 k) →
      (truncf .bf16
    (select (cmpi .eq (shrsi rowN (broadcast (S2 256 256) 4#32)) (shrsi colN (broadcast (S2 256 256) 4#32)))
      (mulf (select (cmpi .eq (andi (xori foldN (shrsi foldN (broadcast (S2 256 256) 1#32))) (broadcast (S2 256 256) 1#32))
          (broadcast (S2 256 256) 1#32))
          (broadcast (S2 256 256) (Scalar.ofBits .f32 0xBE800000#32)) (broadcast (S2 256 256) (Scalar.ofBits .f32 0x3E800000#32)))
        z)
      (broadcast (S2 256 256) (Scalar.ofBits .f32 0x00000000#32))) hb : FVec Ideal (S2 256 256) .bf16) (ix2 i k)
      = Scalar.select (IntOp.cmpi .eq (IntOp.shrsi .vector (rowN (ix2 i k)) 4#32) (IntOp.shrsi .vector (colN (ix2 i k)) 4#32))
          (Scalar.select (parS (IntOp.andi (IntOp.andi (rowN (ix2 i k)) (colN (ix2 i k))) 15#32)) (Ideal.ofBits .f32 0xBE800000#32) (Ideal.ofBits .f32 0x3E800000#32) * signRow s (ix2 0 k))
          (Ideal.ofBits .f32 0x00000000#32) := by
    intro z hz
    rw [← hz]; rfl
  rw [h _ hs, hr, hc, shift_eq, shift_eq, cmp_ofNat _ _ (by omega) (by omega), and15,
    parS_eq ⟨i.val % 16, Nat.mod_lt _ (by decide)⟩ ⟨k.val % 16, Nat.mod_lt _ (by decide)⟩, select_ofBool, signRow_apply, lit_zero, lit_quarter, lit_neg_quarter, EReal.coe_zero]
  refine if_congr Iff.rfl ?_ rfl
  unfold hEntry
  rw [mul_right_comm]
  congr 1
  rw [← EReal.coe_mul]
  generalize odd4 _ _ = o
  cases o <;> simp [Scalar.select] <;> norm_num

/-- A sum of the transform's matrix by 256 values is the sixteen-term sum in the row's group. -/
theorem rht_sum (hb : FTy.bits .bf16 < FTy.bits .f32) (s : Fin 16 → EReal) (x : Fin 256 → EReal) (i : Fin 256) :
    ∑ k : Fin 256, rhtT hb s (ix2 i k) * x k
      = hSum s (fun k => x ⟨16 * (i.val / 16) + k.val, by omega⟩) ⟨i.val % 16, Nat.mod_lt _ (by decide)⟩ := by
  have e : ∑ k : Fin 256, rhtT hb s (ix2 i k) * x k
      = ∑ p : Fin 16 × Fin 16, rhtT hb s (ix2 i (finProdFinEquiv (m := 16) (n := 16) p)) * x (finProdFinEquiv (m := 16) (n := 16) p) :=
    ((finProdFinEquiv (m := 16) (n := 16)).sum_comp (fun k : Fin 256 => rhtT hb s (ix2 i k) * x k)).symm
  rw [e, Fintype.sum_prod_type, Finset.sum_eq_single (⟨i.val / 16, by omega⟩ : Fin 16)]
  · unfold hSum
    refine Finset.sum_congr rfl fun k _ => ?_
    have hv : (finProdFinEquiv (m := 16) (n := 16) (⟨i.val / 16, by omega⟩, k)).val = k.val + 16 * (i.val / 16) := rfl
    rw [rhtT_apply, if_pos (by rw [hv]; omega), mul_comm]
    congr 1
    · exact congrArg x (Fin.ext (by rw [hv]; exact Nat.add_comm _ _))
    · congr 1
      exact Fin.ext (by show _ % 16 = _; rw [hv]; omega)
  · intro g _ hg
    refine Finset.sum_eq_zero fun k _ => ?_
    have hv : (finProdFinEquiv (m := 16) (n := 16) (g, k)).val = k.val + 16 * g.val := rfl
    rw [rhtT_apply, if_neg, zero_mul]
    rw [hv]
    intro h
    exact hg (Fin.ext (by show g.val = i.val / 16; omega))
  · intro h; exact absurd (Finset.mem_univ _) h

end Mxfp4
-- ==== Proof.Pack.lean ====
/-
  Eight four-bit codes in a word: the word, and the word with every negative zero made a zero, code by code.
-/
module

public import Idealize.ShloMosaic.PureOps.Ideal
public import proofs.«01_k».proof.Proof.Scalar
public import Mathlib.Tactic.Ring

@[expose] public section

noncomputable section

namespace Mxfp4

open Idealize.ShloMosaic

/-- A packed word with every negative zero made a zero, the low three bits of each code being `mask`. -/
def clrW {w : Nat} (mask x : BitVec w) : BitVec w := x &&& (((x &&& mask) + mask) ||| mask)

/-- Adding two words whose lowest codes do not carry adds the codes and the rest apart. -/
theorem append_add {w : Nat} (x p : BitVec w) (y q : BitVec 4) (h : y.toNat + q.toNat < 16) :
    (x ++ y) + (p ++ q) = (x + p) ++ (y + q) := by
  apply BitVec.eq_of_toNat_eq
  have hy := y.isLt
  have hq := q.isLt
  have hs := (y + q).isLt
  rw [BitVec.toNat_add, BitVec.toNat_append, BitVec.toNat_append, BitVec.toNat_append,
    ← Nat.shiftLeft_add_eq_or_of_lt hy, ← Nat.shiftLeft_add_eq_or_of_lt hq, ← Nat.shiftLeft_add_eq_or_of_lt hs,
    BitVec.toNat_add, BitVec.toNat_add, Nat.mod_eq_of_lt (show y.toNat + q.toNat < 2 ^ 4 from h)]
  simp only [Nat.shiftLeft_eq, pow_add]
  generalize 2 ^ w = W
  rw [Nat.mul_comm W, Nat.mod_mul]
  have e1 : (x.toNat * 2 ^ 4 + y.toNat + (p.toNat * 2 ^ 4 + q.toNat)) % 2 ^ 4 = y.toNat + q.toNat := by omega
  have e2 : (x.toNat * 2 ^ 4 + y.toNat + (p.toNat * 2 ^ 4 + q.toNat)) / 2 ^ 4 = x.toNat + p.toNat := by omega
  rw [e1, e2]; ring

/-- The conjunction of two words, the last four bits apart. -/
theorem append_and {w : Nat} (x p : BitVec w) (y q : BitVec 4) : (x ++ y) &&& (p ++ q) = (x &&& p) ++ (y &&& q) := by
  apply BitVec.eq_of_getLsbD_eq
  intro i hi
  simp only [BitVec.getLsbD_and, BitVec.getLsbD_append]
  split <;> simp

/-- The disjunction of two words, the last four bits apart. -/
theorem append_or {w : Nat} (x p : BitVec w) (y q : BitVec 4) : (x ++ y) ||| (p ++ q) = (x ||| p) ++ (y ||| q) := by
  apply BitVec.eq_of_getLsbD_eq
  intro i hi
  simp only [BitVec.getLsbD_or, BitVec.getLsbD_append]
  split <;> simp

/-- Adding 7 to the last three bits of a group of four does not carry out of the group. -/
theorem no_carry (y : BitVec 4) : (y &&& 7#4).toNat + (7#4).toNat < 16 := by revert y; decide

/-- Clearing works code by code. -/
theorem clrW_append {w : Nat} (M x : BitVec w) (y : BitVec 4) : clrW (M ++ 7#4) (x ++ y) = clrW M x ++ clr4 y := by
  unfold clrW clr4
  rw [append_and, append_add _ _ _ _ (no_carry y), append_or, append_and]

/-- Eight codes in a word, the first lowest. -/
def word8 (a0 a1 a2 a3 a4 a5 a6 a7 : BitVec 4) : BitVec 32 :=
  (a7 ++ a6 ++ a5 ++ a4 ++ a3 ++ a2 ++ a1 ++ a0 : BitVec (4 + 4 + 4 + 4 + 4 + 4 + 4 + 4))

/-- Clearing a word clears its codes. -/
theorem clrW_word8 (a0 a1 a2 a3 a4 a5 a6 a7 : BitVec 4) :
    clrW 2004318071#32 (word8 a0 a1 a2 a3 a4 a5 a6 a7)
      = word8 (clr4 a0) (clr4 a1) (clr4 a2) (clr4 a3) (clr4 a4) (clr4 a5) (clr4 a6) (clr4 a7) := by
  have e : (2004318071#32 : BitVec 32) = word8 7#4 7#4 7#4 7#4 7#4 7#4 7#4 7#4 := by decide
  rw [e]
  unfold word8
  rw [clrW_append, clrW_append, clrW_append, clrW_append, clrW_append, clrW_append, clrW_append]
  rfl

/-- A bit of the word. -/
theorem word8_getLsbD (a0 a1 a2 a3 a4 a5 a6 a7 : BitVec 4) (i : Nat) : (word8 a0 a1 a2 a3 a4 a5 a6 a7).getLsbD i
    = if i < 4 then a0.getLsbD i else if i - 4 < 4 then a1.getLsbD (i - 4) else if i - 4 - 4 < 4 then a2.getLsbD (i - 4 - 4)
      else if i - 4 - 4 - 4 < 4 then a3.getLsbD (i - 4 - 4 - 4) else if i - 4 - 4 - 4 - 4 < 4 then a4.getLsbD (i - 4 - 4 - 4 - 4)
      else if i - 4 - 4 - 4 - 4 - 4 < 4 then a5.getLsbD (i - 4 - 4 - 4 - 4 - 4)
      else if i - 4 - 4 - 4 - 4 - 4 - 4 < 4 then a6.getLsbD (i - 4 - 4 - 4 - 4 - 4 - 4)
      else a7.getLsbD (i - 4 - 4 - 4 - 4 - 4 - 4 - 4) := by
  show BitVec.getLsbD (w := 4 + 4 + 4 + 4 + 4 + 4 + 4 + 4) (a7 ++ a6 ++ a5 ++ a4 ++ a3 ++ a2 ++ a1 ++ a0) i = _
  simp only [BitVec.getLsbD_append]

/-- The word from codes in 32 bits. -/
theorem word8_of (n0 n1 n2 n3 n4 n5 n6 n7 : BitVec 4) :
    IntOp.ori (IntOp.ori (IntOp.ori (IntOp.ori (IntOp.ori (IntOp.ori (IntOp.ori (n0.setWidth 32)
      (IntOp.shli .vector (n1.setWidth 32) 4#32)) (IntOp.shli .vector (n2.setWidth 32) 8#32))
      (IntOp.shli .vector (n3.setWidth 32) 12#32)) (IntOp.shli .vector (n4.setWidth 32) 16#32))
      (IntOp.shli .vector (n5.setWidth 32) 20#32)) (IntOp.shli .vector (n6.setWidth 32) 24#32))
      (IntOp.shli .vector (n7.setWidth 32) 28#32) = word8 n0 n1 n2 n3 n4 n5 n6 n7 := by
  simp only [IntOp.ori, IntOp.shli, BitVec.toNat_ofNat, Nat.reducePow, Nat.reduceMod, Nat.reduceLT, if_true]
  apply BitVec.eq_of_getLsbD_eq
  intro i hi
  rw [word8_getLsbD]
  simp only [BitVec.getLsbD_or, BitVec.shiftLeft_eq', BitVec.toNat_ofNat, BitVec.getLsbD_shiftLeft, BitVec.getLsbD_setWidth]
  interval_cases i <;> simp

/-- Four bytes of a word, each the two codes of its place. -/
theorem word8_byte (a : Fin 8 → BitVec 4) (s : Fin 4) (q : Nat) (hq : q < 8) :
    (word8 (a 0) (a 1) (a 2) (a 3) (a 4) (a 5) (a 6) (a 7)).getLsbD (8 * s.val + q)
      = (a ⟨2 * s.val + 1, by omega⟩ ++ a ⟨2 * s.val, by omega⟩ : BitVec (4 + 4)).getLsbD q := by
  rw [word8_getLsbD, BitVec.getLsbD_append]
  fin_cases s <;> interval_cases q <;> simp

/-- A code below 16 is its low four bits. -/
theorem setWidth_4_32 (x : BitVec 32) (h : x.toNat < 16) : (x.setWidth 4).setWidth 32 = x := by
  apply BitVec.eq_of_toNat_eq
  rw [BitVec.toNat_setWidth, BitVec.toNat_setWidth]
  omega

/-- The reference's byte of two codes. -/
def rByte (lo hi : BitVec 32) : BitVec 8 := (IntOp.ori lo (IntOp.shli .host hi 4#32)).setWidth 8

/-- The reference's byte is the two codes side by side. -/
theorem rByte_append (lo hi : BitVec 32) (hl : lo.toNat < 16) (hh : hi.toNat < 16) :
    rByte lo hi = (hi.setWidth 4 ++ lo.setWidth 4 : BitVec (4 + 4)) := by
  rw [← setWidth_4_32 lo hl, ← setWidth_4_32 hi hh]
  generalize lo.setWidth 4 = a
  generalize hi.setWidth 4 = b
  clear hl hh
  revert a b; decide

/-- The low code of the reference's byte. -/
theorem rByte_lo (lo hi : BitVec 32) (hl : lo.toNat < 16) (hh : hi.toNat < 16) :
    IntOp.andi ((rByte lo hi).setWidth 32) 15#32 = lo := by
  rw [← setWidth_4_32 lo hl, ← setWidth_4_32 hi hh]
  generalize lo.setWidth 4 = a
  generalize hi.setWidth 4 = b
  clear hl hh
  revert a b; decide

/-- The high code of the reference's byte. -/
theorem rByte_hi (lo hi : BitVec 32) (hl : lo.toNat < 16) (hh : hi.toNat < 16) :
    IntOp.shrsi .host ((rByte lo hi).setWidth 32) 4#32 = hi := by
  rw [← setWidth_4_32 lo hl, ← setWidth_4_32 hi hh]
  generalize lo.setWidth 4 = a
  generalize hi.setWidth 4 = b
  clear hl hh
  revert a b; decide

end Mxfp4
-- ==== Proof.Spec.lean ====
/-
  The quantiser on one column of transformed values, given by the row number: scales, scaled values, codes, values.
-/
module

public import proofs.«01_k».proof.Proof.Scalar
public import proofs.«01_k».proof.Proof.Pack

@[expose] public section

noncomputable section

namespace Mxfp4

open Idealize.ShloMosaic

/-- The largest magnitude of a block of 32 rows. -/
def amax (V : ℕ → EReal) (b : ℕ) : EReal :=
  (Finset.univ : Finset (Fin 32)).fold max (Ideal.ofBits .f32 0xFF800000#32) fun k => max (V (32 * b + k.val)) (-V (32 * b + k.val))

/-- The exponent of a magnitude, from the logarithm. -/
def expo (a : EReal) : BitVec 32 :=
  Ideal.fptosi 32 (Ideal.liftRound Int.floor (Ideal.div (Ideal.log a) (Ideal.log (Ideal.ofBits .f32 0x40000000#32))))

/-- The kernel's biased scale exponent. -/
def kSe (a : EReal) : BitVec 32 :=
  Scalar.select (Ideal.cmp .oeq a (Ideal.ofBits .f32 0x00000000#32)) 127#32 (IntOp.subi (IntOp.addi (expo a) 127#32) 2#32)

/-- The reference's exponent. -/
def rE (a : EReal) : BitVec 32 :=
  Scalar.select (Ideal.cmp .oeq a (Ideal.ofBits .f32 0x00000000#32)) 3#32 (IntOp.addi (expo a) 1#32)

/-- The kernel's inverse scale. -/
def kInv (a : EReal) : EReal := Ideal.exp2 (((IntOp.subi 127#32 (kSe a)).toInt : ℝ) : EReal)

/-- The reference's inverse scale. -/
def rInv (a : EReal) : EReal := Ideal.pow (Ideal.ofBits .f32 0x40000000#32) (((IntOp.subi 3#32 (rE a)).toInt : ℝ) : EReal)

/-- The reference's scale exponent byte. -/
def rExp (a : EReal) : BitVec 8 := (IntOp.addi (IntOp.subi (rE a) 3#32) 127#32).setWidth 8

/-- The kernel's scale. -/
def kScale (a : EReal) : EReal := Ideal.exp2 (((IntOp.subi (IntOp.andi (kSe a) 255#32) 127#32).toInt : ℝ) : EReal)

/-- The reference's scale. -/
def rScale (a : EReal) : EReal :=
  Ideal.pow (Ideal.ofBits .f32 0x40000000#32) (((IntOp.subi ((rExp a).setWidth 32) 127#32).toInt : ℝ) : EReal)

/-- The kernel's scale exponent is the reference's, its block exponent less three plus 127. -/
theorem kSe_eq (a : EReal) : kSe a = IntOp.addi (IntOp.subi (rE a) 3#32) 127#32 := by
  unfold kSe rE
  rw [select_oeq, select_oeq]
  split_ifs
  · rfl
  · generalize expo a = e
    show e + 127#32 - 2#32 = e + 1#32 - 3#32 + 127#32
    bv_omega

/-- A real power of two is `exp2` of the exponent. -/
theorem pow_two (n : ℤ) : Ideal.pow (Ideal.ofBits .f32 0x40000000#32) ((n : ℝ) : EReal) = Ideal.exp2 ((n : ℝ) : EReal) := by
  rw [lit_two, Ideal.pow_coe_coe, Ideal.exp2_coe]

/-- The kernel's inverse scale is the reference's. -/
theorem kInv_eq (a : EReal) : kInv a = rInv a := by
  unfold kInv rInv
  rw [pow_two, kSe_eq]
  congr 4
  generalize rE a = e
  show 127#32 - (e - 3#32 + 127#32) = 3#32 - e
  bv_omega

/-- The kernel's stored scale exponent is the reference's. -/
theorem kExp_eq (a : EReal) : (kSe a).setWidth 8 = rExp a := by rw [kSe_eq]; rfl

/-- The kernel's scale is the reference's. -/
theorem kScale_eq (a : EReal) : kScale a = rScale a := by
  unfold kScale rScale
  rw [pow_two, ← kExp_eq]
  congr 4
  generalize kSe a = e
  show (e &&& 255#32) - 127#32 = (e.setWidth 8).setWidth 32 - 127#32
  congr 1
  apply BitVec.eq_of_toNat_eq
  rw [BitVec.toNat_and, BitVec.toNat_setWidth, BitVec.toNat_setWidth]
  show e.toNat &&& (2 ^ 8 - 1) = _
  rw [Nat.and_two_pow_sub_one_eq_mod]
  omega

/-- The scaled value of a row. -/
def wOf (V : ℕ → EReal) (i : ℕ) : EReal := V i * rInv (amax V (i / 32))

/-- The reference's magnitude of a row's code: to nearest even, or stochastically by the row's random byte. -/
def qOf (bits : Option (ℕ → BitVec 8)) (V : ℕ → EReal) (i : ℕ) : EReal :=
  match bits with
  | none => rRne (wOf V i)
  | some B => rSr (wOf V i) (uOf (B i))

/-- The reference's code of a row. -/
def nibOf (bits : Option (ℕ → BitVec 8)) (V : ℕ → EReal) (i : ℕ) : BitVec 32 := rNib (wOf V i) (qOf bits V i)

/-- The reference's byte of two rows. -/
def codeOf (bits : Option (ℕ → BitVec 8)) (V : ℕ → EReal) (r : ℕ) : BitVec 8 := rByte (nibOf bits V (2 * r)) (nibOf bits V (2 * r + 1))

/-- The reference's dequantised value of a row. -/
def valOf (bits : Option (ℕ → BitVec 8)) (V : ℕ → EReal) (i : ℕ) : EReal := rDec (nibOf bits V i) * rScale (amax V (i / 32))

/-- What the kernel rounds to nearest even: the scaled value, or its stochastic rounding. -/
def kArg (bits : Option (ℕ → BitVec 8)) (V : ℕ → EReal) (i : ℕ) : EReal :=
  match bits with
  | none => wOf V i
  | some B => kSr (wOf V i) (B i)

/-- Kernel and reference agree at every row. -/
theorem agree (bits : Option (ℕ → BitVec 8)) (V : ℕ → EReal) (i : ℕ) :
    Agree (kNib (kArg bits V i)) (kF4 (kArg bits V i)) (nibOf bits V i) := by
  cases bits with
  | none => exact agree_rne _
  | some B => exact agree_sr _ _

/-- The byte the kernel stores for two rows is the reference's. -/
theorem code_eq (bits : Option (ℕ → BitVec 8)) (V : ℕ → EReal) (r : ℕ) :
    (clr4 ((kNib (kArg bits V (2 * r + 1))).setWidth 4) ++ clr4 ((kNib (kArg bits V (2 * r))).setWidth 4) : BitVec (4 + 4))
      = codeOf bits V r := by
  have h0 := agree bits V (2 * r)
  have h1 := agree bits V (2 * r + 1)
  unfold codeOf
  rw [rByte_append _ _ h0.lt_r h1.lt_r, h0.clr, h1.clr]

/-- The value the kernel multiplies by the scale, and the scale, are the reference's. -/
theorem val_eq (bits : Option (ℕ → BitVec 8)) (V : ℕ → EReal) (i : ℕ) :
    kF4 (kArg bits V i) * kScale (amax V (i / 32)) = valOf bits V i := by
  unfold valOf
  rw [(agree bits V i).dec, kScale_eq]

/-- The reference's decoding of its byte gives back the two codes' values. -/
theorem dec_lo (bits : Option (ℕ → BitVec 8)) (V : ℕ → EReal) (r : ℕ) :
    IntOp.andi ((codeOf bits V r).setWidth 32) 15#32 = nibOf bits V (2 * r) :=
  rByte_lo _ _ (agree bits V _).lt_r (agree bits V _).lt_r

@[inherit_doc dec_lo] theorem dec_hi (bits : Option (ℕ → BitVec 8)) (V : ℕ → EReal) (r : ℕ) :
    IntOp.shrsi .host ((codeOf bits V r).setWidth 32) 4#32 = nibOf bits V (2 * r + 1) :=
  rByte_hi _ _ (agree bits V _).lt_r (agree bits V _).lt_r

end Mxfp4
-- ==== Proof.TileAt.lean ====
/-
  A tile read at an index: the exponents, scaled values, codes and dequantised values of one column are the quantiser's
  functions of that column.
-/
module

public import Idealize.ShloMosaic.Lib.BitcastPair
public import Idealize.ShloMosaic.Lib.Pipeline.ValueKit.Tiles
public import proofs.«01_k».proof.Proof.Rht
public import proofs.«01_k».proof.Proof.Spec

@[expose] public section

noncomputable section

namespace Mxfp4

open Idealize.ShloMosaic

variable {n : Nat} (h : TileFacts n)

/-- The source index over a block and a row of it. -/
theorem lift_eq (b : Fin 8) (c : Fin n) (k : Fin 32) : h.red.lift (ix2 b c) k = ix3 b k c := by
  funext a
  apply Fin.ext
  match a with
  | ⟨0, _⟩ => rfl
  | ⟨1, _⟩ => rfl
  | ⟨2, _⟩ => rfl

section Scales
variable (v : FVec Ideal (S2 256 n) .f32) (V : ℕ → EReal) (t : ℕ) (c : Fin n)
  (hV : ∀ i : Fin 256, v (ix2 i c) = V (256 * t + i.val))
include hV

/-- The largest magnitude of a block of the tile. -/
theorem max_apply (b : Fin 8) :
    multiReduction .maximumf [1] (S2 8 n) (shapeCast (S3 8 32 n) (absf v) h.blocks) 0xFF800000#32 h.red (.inl rfl) rfl (ix2 b c)
      = amax V (8 * t + b.val) := by
  refine (Ideal.multiReduction_maximumf_single _ _ _ _ _ _).trans ?_
  unfold amax
  refine congrArg (fun f => (Finset.univ : Finset (Fin 32)).fold max (Ideal.ofBits .f32 0xFF800000#32) f) (funext fun (k : Fin 32) => ?_)
  show shapeCast (S3 8 32 n) (absf v) h.blocks (h.red.lift (ix2 b c) k) = _
  have hk := k.isLt
  have hb := b.isLt
  rw [show h.red.lift (ix2 b c) k = ix3 b k c from lift_eq h b c k, shapeCast_apply _ _ _ (ix2 ⟨32 * b.val + k.val, by omega⟩ c) (by
    rw [Shape.rowMajor_val_two, Shape.rowMajor_val_three]
    show (32 * b.val + k.val) * n + c.val = (b.val * 32 + k.val) * n + c.val
    rw [Nat.mul_comm 32])]
  show max (v _) (-(v _)) = _
  rw [hV]
  have e : 256 * t + (32 * b.val + k.val) = 32 * (8 * t + b.val) + k.val := by omega
  show max (V (256 * t + (32 * b.val + k.val))) (-V (256 * t + (32 * b.val + k.val))) = _
  rw [e]

/-- The scale exponent of a block of the tile. -/
theorem seT_apply (b : Fin 8) : seT h v (ix2 b c) = kSe (amax V (8 * t + b.val)) := by
  rw [← max_apply h v V t c hV b]
  rfl

/-- The inverse scale of a block of the tile. -/
theorem invT_apply (b : Fin 8) : invT h v (ix2 b c) = kInv (amax V (8 * t + b.val)) := by
  unfold invT
  rw [shapeCast_self]
  show Ideal.exp2 (((IntOp.subi 127#32 (seT h v (ix2 b c))).toInt : ℝ) : EReal) = _
  rw [seT_apply h v V t c hV b]
  rfl

/-- The exponent field of a block of the tile. -/
theorem pairT_apply (b : Fin 8) : pairT h v (ix2 b c) = IntOp.andi (kSe (amax V (8 * t + b.val))) 255#32 := by
  unfold pairT
  rw [shapeCast_self]
  show IntOp.andi (seT h v (ix2 b c)) 255#32 = _
  rw [seT_apply h v V t c hV b]

end Scales

/-- One of eight rows at a column. -/
theorem rowT_apply {e : EltTy} (x : (S2 8 n).Idx → Elt Ideal e) (b : Nat) (hb : b + 1 ≤ 8) (c : Fin n) :
    rowT h x b hb (ix2 0 c) = x (ix2 ⟨b, hb⟩ c) :=
  View.ld_unit_apply_of _ _ _ _ _ _ (fun a => match a with
    | ⟨0, _⟩ => rfl
    | ⟨1, _⟩ => (Nat.zero_add _).symm)

/-- A scaled block at an index. -/
theorem scaledT_apply (v : FVec Ideal (S2 256 n) .f32) (inv : FVec Ideal (S2 8 n) .f32) (off : Nat) (ho : off + 32 ≤ 256) (b : Nat)
    (hb : b + 1 ≤ 8) (r : Fin 32) (c : Fin n) :
    scaledT h v inv off ho b hb (ix2 r c) = v (ix2 ⟨off + r.val, by omega⟩ c) * inv (ix2 ⟨b, hb⟩ c) := by
  have e1 : extractStridedSlice (S2 32 n) ![off, 0] v (h.slice32 off ho) (ix2 r c) = v (ix2 ⟨off + r.val, by omega⟩ c) :=
    extractStridedSlice_apply _ _ _ _ _ (fun a => match a with
      | ⟨0, _⟩ => rfl
      | ⟨1, _⟩ => (Nat.zero_add _).symm)
  have e2 : broadcastTo (S2 32 n) (rowT (e := .f32) h inv b hb) h.row32 (ix2 r c) = rowT (e := .f32) h inv b hb (ix2 0 c) :=
    broadcastTo_apply _ _ _ _ (fun a => match a with
      | ⟨0, _⟩ => rfl
      | ⟨1, _⟩ => by
        show c.val = if n = 1 then 0 else c.val
        split_ifs with h1
        · have := c.isLt; omega
        · rfl)
  show extractStridedSlice (S2 32 n) ![off, 0] v (h.slice32 off ho) (ix2 r c)
    * broadcastTo (S2 32 n) (rowT (e := .f32) h inv b hb) h.row32 (ix2 r c) = _
  rw [e1, e2]
  exact congrArg _ (rowT_apply (e := .f32) h inv b hb c)

/-- Eight blocks of 32 rows, at an index. -/
theorem cat8T_apply (w : Fin 8 → FVec Ideal (S2 32 n) .f32) (i : Fin 256) (c : Fin n) :
    cat8T h (w 0) (w 1) (w 2) (w 3) (w 4) (w 5) (w 6) (w 7) (ix2 i c)
      = w ⟨i.val / 32, by omega⟩ (ix2 ⟨i.val % 32, by omega⟩ c) := by
  have key : ∀ (b : Fin 8) (r : Fin 32), i.val = 32 * b.val + r.val →
      cat8T h (w 0) (w 1) (w 2) (w 3) (w 4) (w 5) (w 6) (w 7) (ix2 i c) = w b (ix2 r c) := by
    intro b r hi
    unfold cat8T
    refine concatenate_apply_piece 0 _ _ (ix2 i c) b.val (by show b.val < 8; exact b.isLt) (S2 32 n) (w b) ?_ rfl (32 * b.val)
      ?_ (ix2 r c) ?_ hi.symm
    · fin_cases b <;> rfl
    · fin_cases b <;> rfl
    · intro a ha
      match a with
      | ⟨0, _⟩ => exact absurd rfl ha
      | ⟨1, _⟩ => rfl
  exact key _ _ (by show i.val = 32 * (i.val / 32) + i.val % 32; omega)

set_option maxHeartbeats 2000000 in
/-- Sixteen pieces of 16 rows, at an index. -/
theorem cat16_apply (D : (off : Nat) → off + 16 ≤ 256 → (b : Nat) → b + 1 ≤ 8 → FVec Ideal (S2 16 n) .bf16) (i : Fin 256) (c : Fin n) :
    concatenate (S2 256 n) 0 [⟨S2 16 n, D 0 (by omega) 0 (by omega)⟩, ⟨S2 16 n, D 16 (by omega) 0 (by omega)⟩, ⟨S2 16 n, D 32 (by omega) 1 (by omega)⟩,
      ⟨S2 16 n, D 48 (by omega) 1 (by omega)⟩, ⟨S2 16 n, D 64 (by omega) 2 (by omega)⟩, ⟨S2 16 n, D 80 (by omega) 2 (by omega)⟩,
      ⟨S2 16 n, D 96 (by omega) 3 (by omega)⟩, ⟨S2 16 n, D 112 (by omega) 3 (by omega)⟩, ⟨S2 16 n, D 128 (by omega) 4 (by omega)⟩,
      ⟨S2 16 n, D 144 (by omega) 4 (by omega)⟩, ⟨S2 16 n, D 160 (by omega) 5 (by omega)⟩, ⟨S2 16 n, D 176 (by omega) 5 (by omega)⟩,
      ⟨S2 16 n, D 192 (by omega) 6 (by omega)⟩, ⟨S2 16 n, D 208 (by omega) 6 (by omega)⟩, ⟨S2 16 n, D 224 (by omega) 7 (by omega)⟩,
      ⟨S2 16 n, D 240 (by omega) 7 (by omega)⟩] h.cat16 (ix2 i c)
      = D (16 * (i.val / 16)) (by omega) (i.val / 16 / 2) (by omega) (ix2 ⟨i.val % 16, by omega⟩ c) := by
  have key : ∀ (b : Fin 16) (r : Fin 16), i.val = 16 * b.val + r.val →
      concatenate (S2 256 n) 0 [⟨S2 16 n, D 0 (by omega) 0 (by omega)⟩, ⟨S2 16 n, D 16 (by omega) 0 (by omega)⟩, ⟨S2 16 n, D 32 (by omega) 1 (by omega)⟩,
      ⟨S2 16 n, D 48 (by omega) 1 (by omega)⟩, ⟨S2 16 n, D 64 (by omega) 2 (by omega)⟩, ⟨S2 16 n, D 80 (by omega) 2 (by omega)⟩,
      ⟨S2 16 n, D 96 (by omega) 3 (by omega)⟩, ⟨S2 16 n, D 112 (by omega) 3 (by omega)⟩, ⟨S2 16 n, D 128 (by omega) 4 (by omega)⟩,
      ⟨S2 16 n, D 144 (by omega) 4 (by omega)⟩, ⟨S2 16 n, D 160 (by omega) 5 (by omega)⟩, ⟨S2 16 n, D 176 (by omega) 5 (by omega)⟩,
      ⟨S2 16 n, D 192 (by omega) 6 (by omega)⟩, ⟨S2 16 n, D 208 (by omega) 6 (by omega)⟩, ⟨S2 16 n, D 224 (by omega) 7 (by omega)⟩,
      ⟨S2 16 n, D 240 (by omega) 7 (by omega)⟩] h.cat16 (ix2 i c) = D (16 * b.val) (by omega) (b.val / 2) (by omega) (ix2 r c) := by
    intro b r hi
    refine concatenate_apply_piece 0 _ _ (ix2 i c) b.val (by show b.val < 16; exact b.isLt) (S2 16 n)
      (D (16 * b.val) (by omega) (b.val / 2) (by omega)) ?_ rfl (16 * b.val) ?_ (ix2 r c) ?_ hi.symm
    · fin_cases b <;> rfl
    · fin_cases b <;> rfl
    · intro a ha
      match a with
      | ⟨0, _⟩ => exact absurd rfl ha
      | ⟨1, _⟩ => rfl
  exact key ⟨i.val / 16, by omega⟩ ⟨i.val % 16, by omega⟩ (by show i.val = 16 * (i.val / 16) + i.val % 16; omega)

section Values
variable (v : FVec Ideal (S2 256 n) .f32) (V : ℕ → EReal) (t : ℕ) (c : Fin n)
  (hV : ∀ i : Fin 256, v (ix2 i c) = V (256 * t + i.val))
include hV

/-- A block's scaled value. -/
theorem scaled_wOf (i : Fin 256) :
    scaledT h v (invT h v) (32 * (i.val / 32)) (by omega) (i.val / 32) (by omega) (ix2 ⟨i.val % 32, by omega⟩ c)
      = wOf V (256 * t + i.val) := by
  rw [scaledT_apply, invT_apply h v V t c hV, hV, kInv_eq]
  unfold wOf
  have e1 : 256 * t + (32 * (i.val / 32) + i.val % 32) = 256 * t + i.val := by omega
  have e2 : (256 * t + i.val) / 32 = 8 * t + i.val / 32 := by omega
  show V (256 * t + (32 * (i.val / 32) + i.val % 32)) * rInv (amax V (8 * t + i.val / 32)) = _
  rw [e1, e2]

/-- The scaled tile at an index. -/
theorem wT_apply (i : Fin 256) : wT h v (invT h v) (ix2 i c) = kArg none V (256 * t + i.val) :=
  (cat8T_apply h (fun b => scaledT h v (invT h v) (32 * b.val) (by omega) b.val (by omega)) i c).trans
    (scaled_wOf h v V t c hV i)

/-- The stochastically rounded tile at an index. -/
theorem srT_apply (hb : FTy.bits .bf16 < FTy.bits .f32) (bits : IVec (S2 256 n) 8) (B : ℕ → BitVec 8)
    (hB : ∀ i : Fin 256, bits (ix2 i c) = B (256 * t + i.val)) (i : Fin 256) :
    srT h hb v (invT h v) bits (ix2 i c) = kArg (some B) V (256 * t + i.val) := by
  refine (cat8T_apply h (fun b => srV (scaledT h v (invT h v) (32 * b.val) (by omega) b.val (by omega))
    (extractStridedSlice (S2 32 n) ![32 * b.val, 0] bits (h.slice32 (32 * b.val) (by omega))) hb) i c).trans ?_
  have e1 : extractStridedSlice (S2 32 n) ![32 * (i.val / 32), 0] bits (h.slice32 (32 * (i.val / 32)) (by omega))
      (ix2 ⟨i.val % 32, by omega⟩ c) = bits (ix2 i c) :=
    extractStridedSlice_apply _ _ _ _ _ (fun a => match a with
      | ⟨0, _⟩ => by show i.val = 32 * (i.val / 32) + i.val % 32; omega
      | ⟨1, _⟩ => (Nat.zero_add _).symm)
  show kSr (scaledT h v (invT h v) (32 * (i.val / 32)) (by omega) (i.val / 32) (by omega) (ix2 ⟨i.val % 32, by omega⟩ c))
    (extractStridedSlice (S2 32 n) ![32 * (i.val / 32), 0] bits (h.slice32 (32 * (i.val / 32)) (by omega))
      (ix2 ⟨i.val % 32, by omega⟩ c)) = kSr (wOf V (256 * t + i.val)) (B (256 * t + i.val))
  rw [scaled_wOf h v V t c hV i, e1, hB]

end Values

/-- A row of each group of eight, at an index. -/
theorem groupT_apply (nib : IVec (S2 256 n) 32) (k : Nat) (hk : k < 8) (g : Fin 32) (c : Fin n) :
    groupT h nib k hk (ix2 g c) = nib (ix2 ⟨8 * g.val + k, by omega⟩ c) := by
  unfold groupT
  rw [shapeCast_apply _ _ _ (ix3 g 0 c) (by
    rw [Shape.rowMajor_val_two, Shape.rowMajor_val_three]
    show (g.val * 1 + 0) * n + c.val = g.val * n + c.val
    rw [Nat.mul_one, Nat.add_zero])]
  rw [extractStridedSlice_apply _ _ _ _ (ix3 g ⟨k, hk⟩ c) (fun a => match a with
      | ⟨0, _⟩ => (Nat.zero_add _).symm
      | ⟨1, _⟩ => rfl
      | ⟨2, _⟩ => (Nat.zero_add _).symm)]
  exact shapeCast_apply _ _ _ _ (by
    rw [Shape.rowMajor_val_two, Shape.rowMajor_val_three]
    show (8 * g.val + k) * n + c.val = (g.val * 8 + k) * n + c.val
    rw [Nat.mul_comm 8])

/-- The word of eight codes. -/
theorem wordT_apply (nib : IVec (S2 256 n) 32) (g : Fin 32) (c : Fin n) (hN : ∀ i, (nib (ix2 i c)).toNat < 16)
    (a : Fin 8 → BitVec 4) (ha : ∀ k : Fin 8, a k = (nib (ix2 ⟨8 * g.val + k.val, by omega⟩ c)).setWidth 4) :
    wordT h nib (ix2 g c) = word8 (a 0) (a 1) (a 2) (a 3) (a 4) (a 5) (a 6) (a 7) := by
  have e : ∀ (k : Fin 8), groupT h nib k.val k.isLt (ix2 g c) = (a k).setWidth 32 := by
    intro k
    rw [groupT_apply, ha, setWidth_4_32 _ (hN _)]
  rw [← word8_of, ← e 0, ← e 1, ← e 2, ← e 3, ← e 4, ← e 5, ← e 6, ← e 7]
  rfl

/-- The bytes of a tile. -/
theorem codesT_apply (nib : IVec (S2 256 n) 32) (bits : Option (ℕ → BitVec 8)) (V : ℕ → EReal) (t : ℕ) (c : Fin n)
    (hN : ∀ i : Fin 256, nib (ix2 i c) = kNib (kArg bits V (256 * t + i.val))) (r : Fin 128) :
    codesT h nib (ix2 r c) = codeOf bits V (128 * t + r.val) := by
  have hlt : ∀ i, (nib (ix2 i c)).toNat < 16 := fun i => by rw [hN]; exact (agree bits V _).lt_k
  have hr := r.isLt
  have hs : r.val % 4 < 4 := Nat.mod_lt _ (by decide)
  rw [← code_eq]
  apply BitVec.eq_of_getLsbD_eq
  intro q hq
  unfold codesT
  rw [bitcast_getLsbD _ h.bytes (ix2 r c) q hq (by decide)]
  have hrow : (S2 128 n).row (ix2 r c) = r.val := rfl
  have hsrc : ∀ p hp, p = r.val / 4 → h.bytes.srcIdx (ix2 r c) p hp = ix2 ⟨r.val / 4, by omega⟩ c := by
    intro p hp e
    funext a
    apply Fin.ext
    match a with
    | ⟨0, _⟩ => rw [Shape.Bitcasts.srcIdx_row _ _ _ _ _ rfl]; exact e
    | ⟨1, _⟩ => rw [Shape.Bitcasts.srcIdx_other _ _ _ _ _ (show ¬ 1 + 2 = 2 by decide)]; rfl
  rw [hsrc _ _ (by rw [hrow]; omega), hrow]
  have hm : (r.val * 8 + q) % 32 = 8 * (r.val % 4) + q := by omega
  rw [hm]
  show (clrW 2004318071#32 (wordT h nib (ix2 ⟨r.val / 4, by omega⟩ c))).getLsbD _ = _
  rw [wordT_apply h nib ⟨r.val / 4, by omega⟩ c hlt
    (fun k => (nib (ix2 ⟨8 * (r.val / 4) + k.val, by omega⟩ c)).setWidth 4) (fun _ => rfl), clrW_word8]
  refine (word8_byte (fun k => clr4 ((nib (ix2 ⟨8 * (r.val / 4) + k.val, by omega⟩ c)).setWidth 4)) ⟨r.val % 4, hs⟩ q hq).trans ?_
  have e0 : 256 * t + (8 * (r.val / 4) + 2 * (r.val % 4)) = 2 * (128 * t + r.val) := by omega
  have e1 : 256 * t + (8 * (r.val / 4) + (2 * (r.val % 4) + 1)) = 2 * (128 * t + r.val) + 1 := by omega
  show (clr4 ((nib (ix2 ⟨8 * (r.val / 4) + (2 * (r.val % 4) + 1), by omega⟩ c)).setWidth 4)
    ++ clr4 ((nib (ix2 ⟨8 * (r.val / 4) + 2 * (r.val % 4), by omega⟩ c)).setWidth 4) : BitVec (4 + 4)).getLsbD q = _
  rw [hN, hN]
  show (clr4 ((kNib (kArg bits V (256 * t + (8 * (r.val / 4) + (2 * (r.val % 4) + 1))))).setWidth 4)
    ++ clr4 ((kNib (kArg bits V (256 * t + (8 * (r.val / 4) + 2 * (r.val % 4))))).setWidth 4) : BitVec (4 + 4)).getLsbD q = _
  rw [e0, e1]

/-- A dequantised piece at an index. -/
theorem deqT_apply (hb : FTy.bits .bf16 < FTy.bits .f32) (f : FVec Ideal (S2 256 n) .f32) (pair : IVec (S2 8 n) 32)
    (off : Nat) (ho : off + 16 ≤ 256) (b : Nat) (hb' : b + 1 ≤ 8) (r : Fin 16) (c : Fin n) :
    deqT h hb f pair off ho b hb' (ix2 r c) = f (ix2 ⟨off + r.val, by omega⟩ c)
      * Ideal.exp2 (((IntOp.subi (pair (ix2 ⟨b, hb'⟩ c)) 127#32).toInt : ℝ) : EReal) := by
  have e1 : extractStridedSlice (S2 16 n) ![off, 0] f (h.slice16 off ho) (ix2 r c) = f (ix2 ⟨off + r.val, by omega⟩ c) :=
    extractStridedSlice_apply _ _ _ _ _ (fun a => match a with
      | ⟨0, _⟩ => rfl
      | ⟨1, _⟩ => (Nat.zero_add _).symm)
  have e2 : broadcastTo (S2 16 n) (shapeCast (S2 1 n) (rowT (e := .i32) h pair b hb') h.self1) h.row16 (ix2 r c)
      = rowT (e := .i32) h pair b hb' (ix2 0 c) := by
    rw [shapeCast_self]
    exact broadcastTo_apply _ _ _ _ (fun a => match a with
      | ⟨0, _⟩ => rfl
      | ⟨1, _⟩ => by
        show c.val = if n = 1 then 0 else c.val
        split_ifs with h1
        · have := c.isLt; omega
        · rfl)
  show extractStridedSlice (S2 16 n) ![off, 0] f (h.slice16 off ho) (ix2 r c)
    * Ideal.exp2 (((IntOp.subi (broadcastTo (S2 16 n) (shapeCast (S2 1 n) (rowT (e := .i32) h pair b hb') h.self1) h.row16 (ix2 r c))
      127#32).toInt : ℝ) : EReal) = _
  rw [e1, e2]
  have e3 : rowT (e := .i32) h pair b hb' (ix2 0 c) = pair (ix2 ⟨b, hb'⟩ c) := rowT_apply (e := .i32) h pair b hb' c
  rw [e3]

/-- The dequantised tile at an index. -/
theorem valT_apply (hb : FTy.bits .bf16 < FTy.bits .f32) (f : FVec Ideal (S2 256 n) .f32) (v : FVec Ideal (S2 256 n) .f32)
    (bits : Option (ℕ → BitVec 8)) (V : ℕ → EReal) (t : ℕ) (c : Fin n) (hV : ∀ i : Fin 256, v (ix2 i c) = V (256 * t + i.val))
    (hF : ∀ i : Fin 256, f (ix2 i c) = kF4 (kArg bits V (256 * t + i.val))) (i : Fin 256) :
    valT h hb f (pairT h v) (ix2 i c) = valOf bits V (256 * t + i.val) := by
  unfold valT
  rw [cat16_apply h (deqT h hb f (pairT h v)) i c]
  rw [deqT_apply, pairT_apply h v V t c hV, hF, ← val_eq]
  have e1 : 256 * t + (16 * (i.val / 16) + i.val % 16) = 256 * t + i.val := by omega
  have e2 : (256 * t + i.val) / 32 = 8 * t + i.val / 16 / 2 := by omega
  show kF4 (kArg bits V (256 * t + (16 * (i.val / 16) + i.val % 16))) * kScale (amax V (8 * t + i.val / 16 / 2)) = _
  rw [e1, e2]

end Mxfp4
-- ==== Proof.Col.lean ====
/-
  A column of the transformed matrix, shared by the kernels' and the references' readings.
-/
module

public import proofs.«01_k».proof.Proof.TileAt

@[expose] public section

noncomputable section

namespace Mxfp4

open Idealize.ShloMosaic

/-- The transform of a column, row by row: each row is a sixteen-term sum over the rows of its group. -/
def rhtCol (s : Fin 16 → EReal) (x : ℕ → EReal) (i : ℕ) : EReal :=
  hSum s (fun k => x (16 * (i / 16) + k.val)) ⟨i % 16, Nat.mod_lt _ (by decide)⟩

/-- The rows of a tile of 256 rows are transformed within the tile. -/
theorem rhtCol_tile (s : Fin 16 → EReal) (x : ℕ → EReal) (y : Fin 256 → EReal) (t : ℕ) (hy : ∀ i : Fin 256, y i = x (256 * t + i.val))
    (i : Fin 256) : hSum s (fun k => y ⟨16 * (i.val / 16) + k.val, by omega⟩) ⟨i.val % 16, Nat.mod_lt _ (by decide)⟩
      = rhtCol s x (256 * t + i.val) := by
  unfold rhtCol
  have e1 : (fun k : Fin 16 => y ⟨16 * (i.val / 16) + k.val, by omega⟩) = fun k : Fin 16 => x (16 * ((256 * t + i.val) / 16) + k.val) := by
    funext k
    rw [hy]
    exact congrArg x (by show 256 * t + (16 * (i.val / 16) + k.val) = _; omega)
  have e2 : (⟨i.val % 16, Nat.mod_lt _ (by decide)⟩ : Fin 16) = ⟨(256 * t + i.val) % 16, Nat.mod_lt _ (by decide)⟩ :=
    Fin.ext (by show i.val % 16 = (256 * t + i.val) % 16; omega)
  rw [e1, e2]

/-- The reference's sign of an entry of the Hadamard matrix. -/
theorem had_sign (i k : Fin 16) :
    (((IntOp.subi 1#32 (IntOp.muli 2#32 (IntOp.andi (IntOp.ctpop (IntOp.andi (BitVec.ofNat 32 i.val) (BitVec.ofNat 32 k.val))) 1#32))).toInt : ℝ) : EReal)
      = ((if odd4 i k then -1 else 1 : ℝ) : EReal) := by
  have h : (IntOp.subi 1#32 (IntOp.muli 2#32 (IntOp.andi (IntOp.ctpop (IntOp.andi (BitVec.ofNat 32 i.val) (BitVec.ofNat 32 k.val))) 1#32))).toInt
      = if odd4 i k then -1 else 1 := by
    revert i k; decide +kernel
  rw [h]
  split_ifs <;> norm_num

/-- A byte widened to a word is the same number. -/
theorem byte_toInt (b : BitVec 8) : ((b.setWidth 32).toInt : ℝ) = (b.toNat : ℝ) := by
  have h : (b.setWidth 32).toInt = (b.toNat : ℤ) := by
    have := b.isLt
    rw [BitVec.toInt_eq_toNat_of_lt] <;> rw [BitVec.toNat_setWidth, Nat.mod_eq_of_lt (by omega)]
    omega
  rw [h]; norm_num

end Mxfp4
-- ==== Proof.ReadX.lean ====
/-
  What a grid point of the x kernel stores, element by element, as the quantiser's functions of the transformed columns.
-/
module

public import proofs.«01_k».proof.Proof.KernelX
public import proofs.«01_k».proof.Proof.Col

@[expose] public section

set_option maxRecDepth 16384

noncomputable section

namespace Mxfp4.X

open Idealize.ShloMosaic Idealize.ShloMosaic.Tactic Cert.KernelIdeal Cert.KernelIdeal.Gen

/-- The transform's left operand is read at the result's row. -/
theorem v_lhs (i : S256x512.Idx) (q : dot_S256x256_S256x512_S256x512_1_0_0_1_n_n.contr.Idx) : (dot_S256x256_S256x512_S256x512_1_0_0_1_n_n.lhsIdx i q 0).val = (i 0).val := by
  unfold DotDims.lhsIdx
  rw [dif_neg (show ¬(0 : Fin S256x256.rank) ∈ dot_S256x256_S256x512_S256x512_1_0_0_1_n_n.lhsBatch by decide),
    dif_pos (show (0 : Fin S256x256.rank) ∈ dot_S256x256_S256x512_S256x512_1_0_0_1_n_n.lhsNonContracting by decide)]
  rfl

/-- The transform's right operand is read at the result's column. -/
theorem v_rhs (i : S256x512.Idx) (q : dot_S256x256_S256x512_S256x512_1_0_0_1_n_n.contr.Idx) : (dot_S256x256_S256x512_S256x512_1_0_0_1_n_n.rhsIdx i q 1).val = (i 1).val := by
  unfold DotDims.rhsIdx
  rw [dif_neg (show ¬(1 : Fin S256x512.rank) ∈ dot_S256x256_S256x512_S256x512_1_0_0_1_n_n.rhsBatch by decide),
    dif_pos (show (1 : Fin S256x512.rank) ∈ dot_S256x256_S256x512_S256x512_1_0_0_1_n_n.rhsNonContracting by decide)]
  rfl

/-- The product by the transform's matrix is a sum of 256 terms. -/
theorem v_sum (Q : Vec Ideal S256x256 .bf16) (X : Vec Ideal S256x512 .bf16) (i : Fin 256) (c : Fin 512) :
    v Q X (ix2 i c) = ∑ k : Fin 256, (Q : S256x256.Idx → EReal) (ix2 i k) * (X : S256x512.Idx → EReal) (ix2 k c) := by
  unfold v
  rw [shapeCast_self]
  refine (Ideal.matmul_constant_zero_apply dot_S256x256_S256x512_S256x512_1_0_0_1_n_n none (φ₁ := .bf16) (φ₂ := .bf16) Q X (ix2 i c)).trans ?_
  rw [← Equiv.sum_comp (ValueIdx.contrEquiv1 dot_S256x256_S256x512_S256x512_1_0_0_1_n_n 256 rfl rfl).symm]
  refine Finset.sum_congr rfl fun k _ => ?_
  have hk := ValueIdx.contrEquiv1_symm_val dot_S256x256_S256x512_S256x512_1_0_0_1_n_n 256 rfl rfl k
  have el : dot_S256x256_S256x512_S256x512_1_0_0_1_n_n.lhsIdx (ix2 i c)
      ((ValueIdx.contrEquiv1 dot_S256x256_S256x512_S256x512_1_0_0_1_n_n 256 rfl rfl).symm k) = ix2 i k := funext fun a => Fin.ext (by
    match a with
    | ⟨0, _⟩ => exact v_lhs _ _
    | ⟨1, _⟩ => exact (dot_S256x256_S256x512_S256x512_1_0_0_1_n_n.lhsIdx_val_of_single rfl _ _).trans hk)
  have er : dot_S256x256_S256x512_S256x512_1_0_0_1_n_n.rhsIdx (ix2 i c)
      ((ValueIdx.contrEquiv1 dot_S256x256_S256x512_S256x512_1_0_0_1_n_n 256 rfl rfl).symm k) = ix2 k c := funext fun a => Fin.ext (by
    match a with
    | ⟨0, _⟩ => exact (dot_S256x256_S256x512_S256x512_1_0_0_1_n_n.rhsIdx_val_of_single rfl _ _).trans hk
    | ⟨1, _⟩ => exact v_rhs _ _)
  rw [el, er]

/-- The large product's left operand is read at the result's row. -/
theorem dw_lhs (i : S2048x512.Idx) (q : dot_S2048x1536_S1536x512_S2048x512_1_0_0_1_n_n.contr.Idx) : (dot_S2048x1536_S1536x512_S2048x512_1_0_0_1_n_n.lhsIdx i q 0).val = (i 0).val := by
  unfold DotDims.lhsIdx
  rw [dif_neg (show ¬(0 : Fin S2048x1536.rank) ∈ dot_S2048x1536_S1536x512_S2048x512_1_0_0_1_n_n.lhsBatch by decide),
    dif_pos (show (0 : Fin S2048x1536.rank) ∈ dot_S2048x1536_S1536x512_S2048x512_1_0_0_1_n_n.lhsNonContracting by decide)]
  rfl

/-- The large product's right operand is read at the result's column. -/
theorem dw_rhs (i : S2048x512.Idx) (q : dot_S2048x1536_S1536x512_S2048x512_1_0_0_1_n_n.contr.Idx) : (dot_S2048x1536_S1536x512_S2048x512_1_0_0_1_n_n.rhsIdx i q 1).val = (i 1).val := by
  unfold DotDims.rhsIdx
  rw [dif_neg (show ¬(1 : Fin S1536x512.rank) ∈ dot_S2048x1536_S1536x512_S2048x512_1_0_0_1_n_n.rhsBatch by decide),
    dif_pos (show (1 : Fin S1536x512.rank) ∈ dot_S2048x1536_S1536x512_S2048x512_1_0_0_1_n_n.rhsNonContracting by decide)]
  rfl

section Block
variable (s : Fin 16 → EReal) (X : Vec Ideal S1536x512 .bf16) (x : Fin 512 → ℕ → EReal)
  (hX : ∀ (i : Fin 1536) (c : Fin 512), (X : S1536x512.Idx → EReal) (ix2 i c) = x c i.val)
include hX

/-- A tile of the block, transformed. -/
theorem v_apply (t off : ℕ) (ho : off = 256 * t) (h : ∀ a, (![off, 0] : Fin 2 → Nat) a + S256x512.size a ≤ S1536x512.size a)
    (c : Fin 512) (i : Fin 256) : v (rhtT bitsLt_bf16_f32 s) (tile X off h) (ix2 i c) = rhtCol s (x c) (256 * t + i.val) := by
  have h0 : off + 256 ≤ 1536 := h 0
  have e : ∀ k : Fin 256, (tile X off h : S256x512.Idx → EReal) (ix2 k c) = x c (256 * t + k.val) := fun k => by
    rw [← ho]
    exact (View.ld_unit_apply_of (Val := Elt Ideal) (e := EltTy.bf16) X ![off, 0] S256x512.size h (ix2 k c) (ix2 ⟨off + k.val, by omega⟩ c)
      (fun a => match a with
        | ⟨0, _⟩ => rfl
        | ⟨1, _⟩ => (Nat.zero_add _).symm)).trans (hX _ _)
  rw [v_sum]
  exact (rht_sum bitsLt_bf16_f32 s (fun k => (tile X off h : S256x512.Idx → EReal) (ix2 k c)) i).trans
    (rhtCol_tile s (x c) (fun k => (tile X off h : S256x512.Idx → EReal) (ix2 k c)) t e i)

/-- A tile's codes, at their place. -/
theorem codes_piece (t off offR : ℕ) (ho : off = 256 * t) (hR : offR = 128 * t)
    (h : ∀ a, (![off, 0] : Fin 2 → Nat) a + S256x512.size a ≤ S1536x512.size a)
    (hr : ∀ a, (![offR, 0] : Fin 2 → Nat) a + S128x512.size a ≤ S768x512.size a) (y : S128x512.Idx) :
    codes (rhtT bitsLt_bf16_f32 s) (tile X off h) y
      = (fun z : S768x512.Idx => codeOf none (rhtCol s (x (z 1))) (z 0).val) ((Rect.unit (s := S768x512) ![offR, 0] S128x512.size hr).emb y) := by
  have e := codesT_apply facts512 (nibV (w (rhtT bitsLt_bf16_f32 s) (tile X off h))) none (rhtCol s (x (y 1))) t (y 1)
    (fun i => congrArg kNib (wT_apply facts512 _ (rhtCol s (x (y 1))) t (y 1) (v_apply s X x hX t off ho h (y 1)) i)) (y 0)
  refine (congrArg (codes (rhtT bitsLt_bf16_f32 s) (tile X off h)) (ix2_eta (a := 128) (b := 512) y).symm).trans (e.trans ?_)
  have e1 : (Rect.unit (s := S768x512) ![offR, 0] S128x512.size hr).emb y 1 = y 1 := Fin.ext (by
    show 0 + 1 * (y 1).val = (y 1).val; omega)
  have e0 : ((Rect.unit (s := S768x512) ![offR, 0] S128x512.size hr).emb y 0).val = 128 * t + (y 0).val := by
    show offR + 1 * (y 0).val = _; omega
  show _ = codeOf none (rhtCol s (x ((Rect.unit (s := S768x512) ![offR, 0] S128x512.size hr).emb y 1))) ((Rect.unit (s := S768x512) ![offR, 0] S128x512.size hr).emb y 0).val
  rw [e0, e1]

/-- A tile's scale exponents, at their place. -/
theorem se_piece (t off offR : ℕ) (ho : off = 256 * t) (hR : offR = 8 * t)
    (h : ∀ a, (![off, 0] : Fin 2 → Nat) a + S256x512.size a ≤ S1536x512.size a)
    (hr : ∀ a, (![offR, 0] : Fin 2 → Nat) a + S8x512.size a ≤ S48x512.size a) (y : S8x512.Idx) :
    se (rhtT bitsLt_bf16_f32 s) (tile X off h) y
      = (fun z : S48x512.Idx => kSe (amax (rhtCol s (x (z 1))) (z 0).val)) ((Rect.unit (s := S48x512) ![offR, 0] S8x512.size hr).emb y) := by
  have e := seT_apply facts512 (v (rhtT bitsLt_bf16_f32 s) (tile X off h)) (rhtCol s (x (y 1))) t (y 1) (v_apply s X x hX t off ho h (y 1)) (y 0)
  refine (congrArg (se (rhtT bitsLt_bf16_f32 s) (tile X off h)) (ix2_eta (a := 8) (b := 512) y).symm).trans ?_
  unfold se
  rw [shapeCast_self]
  refine e.trans ?_
  have e1 : (Rect.unit (s := S48x512) ![offR, 0] S8x512.size hr).emb y 1 = y 1 := Fin.ext (by
    show 0 + 1 * (y 1).val = (y 1).val; omega)
  have e0 : ((Rect.unit (s := S48x512) ![offR, 0] S8x512.size hr).emb y 0).val = 8 * t + (y 0).val := by
    show offR + 1 * (y 0).val = _; omega
  show _ = kSe (amax (rhtCol s (x ((Rect.unit (s := S48x512) ![offR, 0] S8x512.size hr).emb y 1))) ((Rect.unit (s := S48x512) ![offR, 0] S8x512.size hr).emb y 0).val)
  rw [e0, e1]

/-- A tile's dequantised values, at their place. -/
theorem val_piece (t off : ℕ) (ho : off = 256 * t)
    (h : ∀ a, (![off, 0] : Fin 2 → Nat) a + S256x512.size a ≤ S1536x512.size a) (y : S256x512.Idx) :
    val (rhtT bitsLt_bf16_f32 s) (tile X off h) y
      = (fun z : S1536x512.Idx => valOf none (rhtCol s (x (z 1))) (z 0).val) ((Rect.unit (s := S1536x512) ![off, 0] S256x512.size h).emb y) := by
  have hv := v_apply s X x hX t off ho h (y 1)
  have e := valT_apply facts512 bitsLt_bf16_f32 (f4V (w (rhtT bitsLt_bf16_f32 s) (tile X off h))) (v (rhtT bitsLt_bf16_f32 s) (tile X off h)) none
    (rhtCol s (x (y 1))) t (y 1) hv
    (fun i => congrArg kF4 (wT_apply facts512 _ (rhtCol s (x (y 1))) t (y 1) hv i)) (y 0)
  refine (congrArg (val (rhtT bitsLt_bf16_f32 s) (tile X off h)) (ix2_eta (a := 256) (b := 512) y).symm).trans ?_
  unfold val
  rw [shapeCast_self]
  refine e.trans ?_
  have e1 : (Rect.unit (s := S1536x512) ![off, 0] S256x512.size h).emb y 1 = y 1 := Fin.ext (by
    show 0 + 1 * (y 1).val = (y 1).val; omega)
  have e0 : ((Rect.unit (s := S1536x512) ![off, 0] S256x512.size h).emb y 0).val = 256 * t + (y 0).val := by
    show off + 1 * (y 0).val = _; omega
  show _ = valOf none (rhtCol s (x ((Rect.unit (s := S1536x512) ![off, 0] S256x512.size h).emb y 1))) ((Rect.unit (s := S1536x512) ![off, 0] S256x512.size h).emb y 0).val
  rw [e0, e1]

/-- The block's codes. -/
theorem codesAll_apply (z : S768x512.Idx) :
    codesAll (rhtT bitsLt_bf16_f32 s) X z = codeOf none (rhtCol s (x (z 1))) (z 0).val := by
  unfold codesAll
  refine View.canon_apply_of_pieces (Val := Elt Ideal) (e := .i8) (fun z : S768x512.Idx => codeOf none (rhtCol s (x (z 1))) (z 0).val) _ ?_ z
    (View.cover_of_tiled_head _ _ _ (by rfl) z)
  intro p hp
  simp only [List.mem_cons, List.not_mem_nil, or_false] at hp
  rcases hp with rfl | rfl | rfl | rfl | rfl | rfl
  · exact codes_piece s X x hX 5 1280 640 rfl rfl inb_S1536x512_S256x512_1280_0 inb_S768x512_S128x512_640_0
  · exact codes_piece s X x hX 4 1024 512 rfl rfl inb_S1536x512_S256x512_1024_0 inb_S768x512_S128x512_512_0
  · exact codes_piece s X x hX 3 768 384 rfl rfl inb_S1536x512_S256x512_768_0 inb_S768x512_S128x512_384_0
  · exact codes_piece s X x hX 2 512 256 rfl rfl inb_S1536x512_S256x512_512_0 inb_S768x512_S128x512_256_0
  · exact codes_piece s X x hX 1 256 128 rfl rfl inb_S1536x512_S256x512_256_0 inb_S768x512_S128x512_128_0
  · exact codes_piece s X x hX 0 0 0 rfl rfl inb_S1536x512_S256x512_0_0 inb_S768x512_S128x512_0_0

/-- The block's scale exponents. -/
theorem seAll_apply (z : S48x512.Idx) :
    seAll (rhtT bitsLt_bf16_f32 s) X z = kSe (amax (rhtCol s (x (z 1))) (z 0).val) := by
  unfold seAll
  refine View.canon_apply_of_pieces (Val := Elt Ideal) (e := .i32) (fun z : S48x512.Idx => kSe (amax (rhtCol s (x (z 1))) (z 0).val)) _ ?_ z
    (View.cover_of_tiled_head _ _ _ (by rfl) z)
  intro p hp
  simp only [List.mem_cons, List.not_mem_nil, or_false] at hp
  rcases hp with rfl | rfl | rfl | rfl | rfl | rfl
  · intro y; have e := se_piece s X x hX 5 1280 40 rfl rfl inb_S1536x512_S256x512_1280_0 inb_S48x512_S8x512_40_0 y; dsimp only at e ⊢; exact e
  · intro y; have e := se_piece s X x hX 4 1024 32 rfl rfl inb_S1536x512_S256x512_1024_0 inb_S48x512_S8x512_32_0 y; dsimp only at e ⊢; exact e
  · intro y; have e := se_piece s X x hX 3 768 24 rfl rfl inb_S1536x512_S256x512_768_0 inb_S48x512_S8x512_24_0 y; dsimp only at e ⊢; exact e
  · intro y; have e := se_piece s X x hX 2 512 16 rfl rfl inb_S1536x512_S256x512_512_0 inb_S48x512_S8x512_16_0 y; dsimp only at e ⊢; exact e
  · intro y; have e := se_piece s X x hX 1 256 8 rfl rfl inb_S1536x512_S256x512_256_0 inb_S48x512_S8x512_8_0 y; dsimp only at e ⊢; exact e
  · intro y; have e := se_piece s X x hX 0 0 0 rfl rfl inb_S1536x512_S256x512_0_0 inb_S48x512_S8x512_0_0 y; dsimp only at e ⊢; exact e

/-- The block's dequantised values. -/
theorem valAll_apply (z : S1536x512.Idx) :
    valAll (rhtT bitsLt_bf16_f32 s) X z = valOf none (rhtCol s (x (z 1))) (z 0).val := by
  unfold valAll
  refine View.canon_apply_of_pieces (Val := Elt Ideal) (e := .bf16) (fun z : S1536x512.Idx => valOf none (rhtCol s (x (z 1))) (z 0).val) _ ?_ z
    (View.cover_of_tiled_head _ _ _ (by rfl) z)
  intro p hp
  simp only [List.mem_cons, List.not_mem_nil, or_false] at hp
  rcases hp with rfl | rfl | rfl | rfl | rfl | rfl
  · exact val_piece s X x hX 5 1280 rfl inb_S1536x512_S256x512_1280_0
  · exact val_piece s X x hX 4 1024 rfl inb_S1536x512_S256x512_1024_0
  · exact val_piece s X x hX 3 768 rfl inb_S1536x512_S256x512_768_0
  · exact val_piece s X x hX 2 512 rfl inb_S1536x512_S256x512_512_0
  · exact val_piece s X x hX 1 256 rfl inb_S1536x512_S256x512_256_0
  · exact val_piece s X x hX 0 0 rfl inb_S1536x512_S256x512_0_0

/-- A batch's scale exponents, at their place. -/
theorem exps_piece (b off : ℕ) (ho : off = 12 * b)
    (h : ∀ a, (![off, 0] : Fin 2 → Nat) a + S12x512.size a ≤ S48x512.size a)
    (hr : ∀ a, (![b, 0, 0] : Fin 3 → Nat) a + S1x12x512.size a ≤ S4x12x512.size a) (y : S1x12x512.Idx) :
    exps1 (rhtT bitsLt_bf16_f32 s) X off h y
      = (fun z : S4x12x512.Idx => rExp (amax (rhtCol s (x (z 2))) (12 * (z 0).val + (z 1).val)))
          ((Rect.unit (s := S4x12x512) ![b, 0, 0] S1x12x512.size hr).emb y) := by
  have h0 : off + 12 ≤ 48 := h 0
  have hy0 : (y 0).val < 1 := (y 0).isLt
  have hy1 : (y 1).val < 12 := (y 1).isLt
  have hy2 : (y 2).val < 512 := (y 2).isLt
  unfold exps1
  refine (shapeCast_apply _ _ y (ix2 (⟨(y 1).val, hy1⟩ : Fin 12) (⟨(y 2).val, hy2⟩ : Fin 512)) (by
    rw [Shape.rowMajor_val_two, Shape.rowMajor_val_three]
    show (y 1).val * 512 + (y 2).val = ((y 0).val * 12 + (y 1).val) * 512 + (y 2).val
    omega)).trans ?_
  refine (congrArg (fun z : BitVec 32 => z.setWidth 8) ((View.ld_unit_apply_of (Val := Elt Ideal) (e := EltTy.i32) (seAll (rhtT bitsLt_bf16_f32 s) X) ![off, 0] S12x512.size h
    (ix2 (⟨(y 1).val, hy1⟩ : Fin 12) (⟨(y 2).val, hy2⟩ : Fin 512)) (ix2 (⟨off + (y 1).val, by omega⟩ : Fin 48) (⟨(y 2).val, hy2⟩ : Fin 512))
      (fun a => match a with
        | ⟨0, _⟩ => rfl
        | ⟨1, _⟩ => (Nat.zero_add _).symm)).trans (seAll_apply s X x hX _))).trans ?_
  refine (kExp_eq _).trans ?_
  have e2 : (Rect.unit (s := S4x12x512) ![b, 0, 0] S1x12x512.size hr).emb y 2 = (⟨(y 2).val, hy2⟩ : Fin 512) := Fin.ext (by
    show 0 + 1 * (y 2).val = (y 2).val; omega)
  have e0 : 12 * ((Rect.unit (s := S4x12x512) ![b, 0, 0] S1x12x512.size hr).emb y 0).val + ((Rect.unit (s := S4x12x512) ![b, 0, 0] S1x12x512.size hr).emb y 1).val
      = off + (y 1).val := by
    show 12 * (b + 1 * (y 0).val) + (0 + 1 * (y 1).val) = _; omega
  show _ = rExp (amax (rhtCol s (x ((Rect.unit (s := S4x12x512) ![b, 0, 0] S1x12x512.size hr).emb y 2)))
    (12 * ((Rect.unit (s := S4x12x512) ![b, 0, 0] S1x12x512.size hr).emb y 0).val + ((Rect.unit (s := S4x12x512) ![b, 0, 0] S1x12x512.size hr).emb y 1).val))
  rw [e0, e2]
  rfl

/-- The block's scale exponents as bytes, batch by batch. -/
theorem expsAll_apply (z : S4x12x512.Idx) :
    expsAll (rhtT bitsLt_bf16_f32 s) X z = rExp (amax (rhtCol s (x (z 2))) (12 * (z 0).val + (z 1).val)) := by
  unfold expsAll
  refine View.canon_apply_of_pieces (Val := Elt Ideal) (e := .i8) (fun z : S4x12x512.Idx => rExp (amax (rhtCol s (x (z 2))) (12 * (z 0).val + (z 1).val))) _ ?_ z
    (View.cover_of_tiled_head _ _ _ (by rfl) z)
  intro p hp
  simp only [List.mem_cons, List.not_mem_nil, or_false] at hp
  rcases hp with rfl | rfl | rfl | rfl
  · exact exps_piece s X x hX 3 36 rfl inb_S48x512_S12x512_36_0 inb_S4x12x512_S1x12x512_3_0_0
  · exact exps_piece s X x hX 2 24 rfl inb_S48x512_S12x512_24_0 inb_S4x12x512_S1x12x512_2_0_0
  · exact exps_piece s X x hX 1 12 rfl inb_S48x512_S12x512_12_0 inb_S4x12x512_S1x12x512_1_0_0
  · exact exps_piece s X x hX 0 0 rfl inb_S48x512_S12x512_0_0 inb_S4x12x512_S1x12x512_0_0_0

/-- The block's product. -/
theorem dw_apply (W : Vec Ideal S2048x1536 .bf16) (i : Fin 2048) (c : Fin 512) :
    dw (rhtT bitsLt_bf16_f32 s) X W (ix2 i c)
      = ∑ k : Fin 1536, (W : S2048x1536.Idx → EReal) (ix2 i k) * valOf none (rhtCol s (x c)) k.val := by
  unfold dw
  refine (Ideal.matmul_constant_zero_apply dot_S2048x1536_S1536x512_S2048x512_1_0_0_1_n_n none (φ₁ := .bf16) (φ₂ := .bf16) W (valAll (rhtT bitsLt_bf16_f32 s) X) (ix2 i c)).trans ?_
  rw [← Equiv.sum_comp (ValueIdx.contrEquiv1 dot_S2048x1536_S1536x512_S2048x512_1_0_0_1_n_n 1536 rfl rfl).symm]
  refine Finset.sum_congr rfl fun k _ => ?_
  have hk := ValueIdx.contrEquiv1_symm_val dot_S2048x1536_S1536x512_S2048x512_1_0_0_1_n_n 1536 rfl rfl k
  have el : dot_S2048x1536_S1536x512_S2048x512_1_0_0_1_n_n.lhsIdx (ix2 i c)
      ((ValueIdx.contrEquiv1 dot_S2048x1536_S1536x512_S2048x512_1_0_0_1_n_n 1536 rfl rfl).symm k) = ix2 i k := funext fun a => Fin.ext (by
    match a with
    | ⟨0, _⟩ => exact dw_lhs _ _
    | ⟨1, _⟩ => exact (dot_S2048x1536_S1536x512_S2048x512_1_0_0_1_n_n.lhsIdx_val_of_single rfl _ _).trans hk)
  have er : dot_S2048x1536_S1536x512_S2048x512_1_0_0_1_n_n.rhsIdx (ix2 i c)
      ((ValueIdx.contrEquiv1 dot_S2048x1536_S1536x512_S2048x512_1_0_0_1_n_n 1536 rfl rfl).symm k) = ix2 k c := funext fun a => Fin.ext (by
    match a with
    | ⟨0, _⟩ => exact (dot_S2048x1536_S1536x512_S2048x512_1_0_0_1_n_n.rhsIdx_val_of_single rfl _ _).trans hk
    | ⟨1, _⟩ => exact dw_rhs _ _)
  rw [el, er]
  exact congrArg (fun z => (W : S2048x1536.Idx → EReal) (ix2 i k) * z) (valAll_apply s X x hX (ix2 k c))
end Block

end Mxfp4.X
-- ==== Proof.RefX.lean ====
/-
  The reference of the x kernel, stage by stage, as the quantiser's functions of the transformed columns.
-/
module

public import proofs.«01_k».proof.Proof.Gen.ReferenceIdeal.Read
public import proofs.«01_k».proof.Proof.Col

@[expose] public section

set_option maxRecDepth 16384

noncomputable section

namespace Mxfp4.RefX

open Idealize.ShloMosaic Cert.ReferenceIdeal Cert.ReferenceIdeal.Gen Cert.ReferenceIdeal.Read

/-- The reference's matrix, entry by entry. -/
theorem v15_at (x1 : S16.Idx → EReal) (s : Fin 16 → EReal) (hs : ∀ k : Fin 16, ∀ j : S16.Idx, (j 0).val = k.val → x1 j = s k) (i k : Fin 16) :
    val_main_v15 (F := Ideal) x1 (ix2 i k) = hEntry s i k := by
  have e : val_main_v15 (F := Ideal) x1 (ix2 i k)
      = (((IntOp.subi 1#32 (IntOp.muli 2#32 (IntOp.andi (IntOp.ctpop (IntOp.andi (BitVec.ofNat 32 i.val) (BitVec.ofNat 32 k.val))) 1#32))).toInt : ℝ) : EReal)
        * val_main_v12 (F := Ideal) x1 (ix2 i k) * Ideal.ofBits .f32 0x3E800000#32 := rfl
  rw [e, had_sign, lit_quarter, val_main_v12_apply, val_main_v11_apply, hs k _ rfl]
  rfl

section Stages
variable (x0 : S4x384x7168.Idx → EReal) (x1 : S16.Idx → EReal) (s : Fin 16 → EReal)
  (hs : ∀ k : Fin 16, ∀ j : S16.Idx, (j 0).val = k.val → x1 j = s k)
  (x : Fin 7168 → ℕ → EReal)
  (hx : ∀ (i : Fin 1536) (c : Fin 7168), val_main_v16 (F := Ideal) x0 (ix2 i c) = x c i.val)
include hs hx

/-- The transformed rows. -/
theorem v21_at (i : Fin 1536) (c : Fin 7168) : val_main_v21 (F := Ideal) x0 x1 (ix2 i c) = rhtCol s (x c) i.val := by
  have hi := i.isLt
  have hc := c.isLt
  rw [val_main_v21_apply]
  have e1 : idx_main_v21 (ix2 i c) = ix3 (⟨i.val / 16, by omega⟩ : Fin 96) (⟨i.val % 16, by omega⟩ : Fin 16) c := funext fun a => Fin.ext (by
    match a with
    | ⟨0, _⟩ => show (i.val * 7168 + c.val) / 114688 = i.val / 16; omega
    | ⟨1, _⟩ => show (i.val * 7168 + c.val) / 7168 % 16 = i.val % 16; omega
    | ⟨2, _⟩ => show (i.val * 7168 + c.val) % 7168 = c.val; omega)
  rw [e1, val_main_v20_apply, val_main_v19_apply]
  unfold rhtCol hSum
  refine Finset.sum_congr rfl fun k _ => ?_
  have hk := k.isLt
  rw [val_main_v18_apply]
  have e2 : idx_main_v18 (lidx_main_v19 (idx_main_v20 (ix3 (⟨i.val / 16, by omega⟩ : Fin 96) (⟨i.val % 16, by omega⟩ : Fin 16) c)) k)
      = ix2 (⟨16 * (i.val / 16) + k.val, by omega⟩ : Fin 1536) c := funext fun a => Fin.ext (by
    match a with
    | ⟨0, _⟩ => show ((i.val / 16 * 16 + k.val) * 7168 + c.val) / 7168 = 16 * (i.val / 16) + k.val; omega
    | ⟨1, _⟩ => show ((i.val / 16 * 16 + k.val) * 7168 + c.val) % 7168 = c.val; omega)
  have e3 : ridx_main_v19 (idx_main_v20 (ix3 (⟨i.val / 16, by omega⟩ : Fin 96) (⟨i.val % 16, by omega⟩ : Fin 16) c)) k
      = ix2 (⟨i.val % 16, by omega⟩ : Fin 16) k := funext fun a => Fin.ext (by
    match a with
    | ⟨0, _⟩ => rfl
    | ⟨1, _⟩ => rfl)
  rw [e2, e3, v15_at x1 s hs]
  exact congrArg (fun z => z * hEntry s (⟨i.val % 16, by omega⟩ : Fin 16) k) (hx _ _)

/-- The rows in blocks of 32. -/
theorem v22_at (b : Fin 48) (k : Fin 32) (c : Fin 7168) :
    val_main_v22 (F := Ideal) x0 x1 (ix3 b k c) = rhtCol s (x c) (32 * b.val + k.val) := by
  have hb := b.isLt
  have hk := k.isLt
  have hc := c.isLt
  rw [val_main_v22_apply]
  have e : idx_main_v22 (ix3 b k c) = ix2 (⟨32 * b.val + k.val, by omega⟩ : Fin 1536) c := funext fun a => Fin.ext (by
    match a with
    | ⟨0, _⟩ => show ((b.val * 32 + k.val) * 7168 + c.val) / 7168 = 32 * b.val + k.val; omega
    | ⟨1, _⟩ => show ((b.val * 32 + k.val) * 7168 + c.val) % 7168 = c.val; omega)
  rw [e, v21_at x0 x1 s hs x hx]

/-- The largest magnitude of a block. -/
theorem v24_at (b : Fin 48) (c : Fin 7168) : val_main_v24 (F := Ideal) x0 x1 (ix2 b c) = amax (rhtCol s (x c)) b.val := by
  unfold val_main_v24
  have hr : S48x32x7168.Reduces [1] S48x7168 := by decide
  refine (Host.reduce_eq_fold_single (FloatOps.maximumf (F := Ideal) (φ := .f32)) (val_main_v23 (F := Ideal) x0 x1) (val_main_cst_2 (F := Ideal))
    reducesTo_S48x32x7168_S48x7168_d1 hr h_S_ (ix2 b c)).trans ?_
  unfold amax
  refine Finset.fold_congr fun k _ => ?_
  have el : hr.lift (ix2 b c) k = ix3 b k c := funext fun a => Fin.ext (by
    match a with
    | ⟨0, _⟩ => rfl
    | ⟨1, _⟩ => rfl
    | ⟨2, _⟩ => rfl)
  show val_main_v23 (F := Ideal) x0 x1 (hr.lift (ix2 b c) k) = _
  rw [el]
  exact congrArg (fun z : EReal => max z (-z)) (v22_at x0 x1 s hs x hx b k c)

omit hs hx in
/-- The exponent of a block's magnitude. -/
theorem v30_at (i : S48x7168.Idx) : val_main_v30 (F := Ideal) x0 x1 i = expo (val_main_v24 (F := Ideal) x0 x1 i) := by
  rw [val_main_v30_apply, val_main_v29_apply, val_main_v28_apply, val_main_v25_apply, val_main_v27_apply, val_main_v26_apply,
    val_main_cst_3_apply]
  simp only [Ideal.hostUnary_floor_def, Ideal.hostUnary_log_def, Ideal.hostDivf_def]
  rfl

omit hs hx in
/-- The reference's exponent. -/
theorem v35_at (i : S48x7168.Idx) : val_main_v35 (F := Ideal) x0 x1 i = rE (val_main_v24 (F := Ideal) x0 x1 i) := by
  unfold rE
  rw [← v30_at, val_main_v35_apply, val_main_v32_apply, val_main_v34_apply, val_main_v33_apply, val_main_v31_apply,
    val_main_call0_v1_apply]
  rfl

/-- The scale exponent bytes. -/
theorem v40_at (b : Fin 48) (c : Fin 7168) : val_main_v40 (F := Ideal) x0 x1 (ix2 b c) = rExp (amax (rhtCol s (x c)) b.val) := by
  rw [← v24_at x0 x1 s hs x hx]
  unfold rExp
  rw [← v35_at]
  rfl

/-- The inverse scales. -/
theorem v45_at (b : Fin 48) (c : Fin 7168) : val_main_v45 (F := Ideal) x0 x1 (ix2 b c) = rInv (amax (rhtCol s (x c)) b.val) := by
  rw [← v24_at x0 x1 s hs x hx]
  unfold rInv
  rw [← v35_at]
  rfl

/-- The scales. -/
theorem v162_at (b : Fin 48) (c : Fin 7168) : val_main_v162 (F := Ideal) x0 x1 (ix2 b c) = rScale (amax (rhtCol s (x c)) b.val) := by
  unfold rScale
  rw [← v40_at x0 x1 s hs x hx]
  rfl

/-- The scaled rows. -/
theorem v49_at (i : Fin 1536) (c : Fin 7168) : val_main_v49 (F := Ideal) x0 x1 (ix2 i c) = wOf (rhtCol s (x c)) i.val := by
  have hi := i.isLt
  have hc := c.isLt
  rw [val_main_v49_apply]
  have e : idx_main_v49 (ix2 i c) = ix3 (⟨i.val / 32, by omega⟩ : Fin 48) (⟨i.val % 32, by omega⟩ : Fin 32) c := funext fun a => Fin.ext (by
    match a with
    | ⟨0, _⟩ => show (i.val * 7168 + c.val) / 229376 = i.val / 32; omega
    | ⟨1, _⟩ => show (i.val * 7168 + c.val) / 7168 % 32 = i.val % 32; omega
    | ⟨2, _⟩ => show (i.val * 7168 + c.val) % 7168 = c.val; omega)
  rw [e, val_main_v48_apply, v22_at x0 x1 s hs x hx, val_main_v47_apply, val_main_v46_apply]
  have e2 : idx_main_v46 (idx_main_v47 (ix3 (⟨i.val / 32, by omega⟩ : Fin 48) (⟨i.val % 32, by omega⟩ : Fin 32) c)) = ix2 (⟨i.val / 32, by omega⟩ : Fin 48) c :=
    funext fun a => Fin.ext (by
      match a with
      | ⟨0, _⟩ => rfl
      | ⟨1, _⟩ => rfl)
  rw [e2, v45_at x0 x1 s hs x hx]
  have e3 : 32 * (i.val / 32) + i.val % 32 = i.val := by omega
  show rhtCol s (x c) (32 * (i.val / 32) + i.val % 32) * rInv (amax (rhtCol s (x c)) (i.val / 32)) = _
  rw [e3]
  rfl

/-- The rounded magnitudes. -/
theorem v63_at (i : Fin 1536) (c : Fin 7168) : val_main_v63 (F := Ideal) x0 x1 (ix2 i c) = qOf none (rhtCol s (x c)) i.val := by
  show _ = rRne (wOf (rhtCol s (x c)) i.val)
  rw [← v49_at x0 x1 s hs x hx]
  rfl

/-- The codes of the rows. -/
theorem v87_at (i : Fin 1536) (c : Fin 7168) : val_main_v87 (F := Ideal) x0 x1 (ix2 i c) = nibOf none (rhtCol s (x c)) i.val := by
  unfold nibOf
  rw [← v63_at x0 x1 s hs x hx, ← v49_at x0 x1 s hs x hx]
  rfl

/-- The code of the first row of a pair. -/
theorem v90_at (r : Fin 768) (c : Fin 7168) : val_main_v90 (F := Ideal) x0 x1 (ix2 r c) = nibOf none (rhtCol s (x c)) (2 * r.val) := by
  have hr := r.isLt
  have hc := c.isLt
  rw [val_main_v90_apply, val_main_v89_apply, val_main_v88_apply]
  have e : idx_main_v88 (idx_main_v89 (idx_main_v90 (ix2 r c))) = ix2 (⟨2 * r.val, by omega⟩ : Fin 1536) c := funext fun a => Fin.ext (by
    match a with
    | ⟨0, _⟩ => show (((r.val * 7168 + c.val) / 7168 * 2 + 0) * 7168 + (r.val * 7168 + c.val) % 7168) / 7168 = 2 * r.val; omega
    | ⟨1, _⟩ => show (((r.val * 7168 + c.val) / 7168 * 2 + 0) * 7168 + (r.val * 7168 + c.val) % 7168) % 7168 = c.val; omega)
  rw [e, v87_at x0 x1 s hs x hx]

/-- The code of the second row of a pair. -/
theorem v92_at (r : Fin 768) (c : Fin 7168) : val_main_v92 (F := Ideal) x0 x1 (ix2 r c) = nibOf none (rhtCol s (x c)) (2 * r.val + 1) := by
  have hr := r.isLt
  have hc := c.isLt
  rw [val_main_v92_apply, val_main_v91_apply, val_main_v88_apply]
  have e : idx_main_v88 (idx_main_v91 (idx_main_v92 (ix2 r c))) = ix2 (⟨2 * r.val + 1, by omega⟩ : Fin 1536) c := funext fun a => Fin.ext (by
    match a with
    | ⟨0, _⟩ => show (((r.val * 7168 + c.val) / 7168 * 2 + (1 + 0)) * 7168 + (r.val * 7168 + c.val) % 7168) / 7168 = 2 * r.val + 1; omega
    | ⟨1, _⟩ => show (((r.val * 7168 + c.val) / 7168 * 2 + (1 + 0)) * 7168 + (r.val * 7168 + c.val) % 7168) % 7168 = c.val; omega)
  rw [e, v87_at x0 x1 s hs x hx]

/-- The code bytes. -/
theorem v96_at (r : Fin 768) (c : Fin 7168) : val_main_v96 (F := Ideal) x0 x1 (ix2 r c) = codeOf none (rhtCol s (x c)) r.val := by
  unfold codeOf
  rw [← v90_at x0 x1 s hs x hx, ← v92_at x0 x1 s hs x hx]
  rfl

/-- The value of the low code of a byte. -/
theorem v124_at (r : Fin 768) (c : Fin 7168) : val_main_v124 (F := Ideal) x0 x1 (ix2 r c) = rDec (nibOf none (rhtCol s (x c)) (2 * r.val)) := by
  rw [← dec_lo, ← v96_at x0 x1 s hs x hx]
  rfl

/-- The value of the high code of a byte. -/
theorem v152_at (r : Fin 768) (c : Fin 7168) : val_main_v152 (F := Ideal) x0 x1 (ix2 r c) = rDec (nibOf none (rhtCol s (x c)) (2 * r.val + 1)) := by
  rw [← dec_hi, ← v96_at x0 x1 s hs x hx]
  rfl

/-- The two values of a byte, one under the other. -/
theorem v154_at (r : Fin 768) (p : Fin 2) (c : Fin 7168) :
    val_main_v154 (F := Ideal) x0 x1 (ix3 r p c) = rDec (nibOf none (rhtCol s (x c)) (2 * r.val + p.val)) := by
  have hr := r.isLt
  have hc := c.isLt
  unfold val_main_v154
  match p with
  | ⟨0, _⟩ =>
    refine (concatenate_apply_piece 1 [⟨S768x1x7168, val_main_v125 (F := Ideal) x0 x1⟩, ⟨S768x1x7168, val_main_v153 (F := Ideal) x0 x1⟩] concatenates_S768x1x7168_S768x1x7168_S768x2x7168_d1 (ix3 (b := 2) r 0 c) 0 (show 0 < 2 by decide) S768x1x7168 (val_main_v125 (F := Ideal) x0 x1) rfl rfl 0 rfl
      (ix3 (b := 1) r 0 c) (fun a => match a with
        | ⟨0, _⟩ => fun _ => rfl
        | ⟨1, _⟩ => fun hn => absurd rfl hn
        | ⟨2, _⟩ => fun _ => rfl) rfl).trans ?_
    rw [val_main_v125_apply]
    have e : idx_main_v125 (ix3 (b := 1) r 0 c) = ix2 r c := funext fun a => Fin.ext (by
      match a with
      | ⟨0, _⟩ => show ((r.val * 1 + 0) * 7168 + c.val) / 7168 = r.val; omega
      | ⟨1, _⟩ => show ((r.val * 1 + 0) * 7168 + c.val) % 7168 = c.val; omega)
    rw [e, v124_at x0 x1 s hs x hx]
    rfl
  | ⟨1, _⟩ =>
    refine (concatenate_apply_piece 1 [⟨S768x1x7168, val_main_v125 (F := Ideal) x0 x1⟩, ⟨S768x1x7168, val_main_v153 (F := Ideal) x0 x1⟩] concatenates_S768x1x7168_S768x1x7168_S768x2x7168_d1 (ix3 (b := 2) r 1 c) 1 (show 1 < 2 by decide) S768x1x7168 (val_main_v153 (F := Ideal) x0 x1) rfl rfl 1 rfl
      (ix3 (b := 1) r 0 c) (fun a => match a with
        | ⟨0, _⟩ => fun _ => rfl
        | ⟨1, _⟩ => fun hn => absurd rfl hn
        | ⟨2, _⟩ => fun _ => rfl) rfl).trans ?_
    rw [val_main_v153_apply]
    have e : idx_main_v153 (ix3 (b := 1) r 0 c) = ix2 r c := funext fun a => Fin.ext (by
      match a with
      | ⟨0, _⟩ => show ((r.val * 1 + 0) * 7168 + c.val) / 7168 = r.val; omega
      | ⟨1, _⟩ => show ((r.val * 1 + 0) * 7168 + c.val) % 7168 = c.val; omega)
    rw [e, v152_at x0 x1 s hs x hx]

/-- The dequantised rows. -/
theorem v166_at (i : Fin 1536) (c : Fin 7168) : val_main_v166 (F := Ideal) x0 x1 (ix2 i c) = valOf none (rhtCol s (x c)) i.val := by
  have hi := i.isLt
  have hc := c.isLt
  rw [val_main_v166_apply]
  have e : idx_main_v166 (ix2 i c) = ix3 (⟨i.val / 32, by omega⟩ : Fin 48) (⟨i.val % 32, by omega⟩ : Fin 32) c := funext fun a => Fin.ext (by
    match a with
    | ⟨0, _⟩ => show (i.val * 7168 + c.val) / 229376 = i.val / 32; omega
    | ⟨1, _⟩ => show (i.val * 7168 + c.val) / 7168 % 32 = i.val % 32; omega
    | ⟨2, _⟩ => show (i.val * 7168 + c.val) % 7168 = c.val; omega)
  rw [e, val_main_v165_apply, val_main_v164_apply, val_main_v163_apply, val_main_v155_apply]
  have e2 : idx_main_v163 (idx_main_v164 (ix3 (⟨i.val / 32, by omega⟩ : Fin 48) (⟨i.val % 32, by omega⟩ : Fin 32) c)) = ix2 (⟨i.val / 32, by omega⟩ : Fin 48) c :=
    funext fun a => Fin.ext (by
      match a with
      | ⟨0, _⟩ => rfl
      | ⟨1, _⟩ => rfl)
  have e3 : idx_main_v155 (ix3 (⟨i.val / 32, by omega⟩ : Fin 48) (⟨i.val % 32, by omega⟩ : Fin 32) c)
      = ix3 (⟨i.val / 2, by omega⟩ : Fin 768) (⟨i.val % 2, by omega⟩ : Fin 2) c := funext fun a => Fin.ext (by
    match a with
    | ⟨0, _⟩ => show ((i.val / 32 * 32 + i.val % 32) * 7168 + c.val) / 14336 = i.val / 2; omega
    | ⟨1, _⟩ => show ((i.val / 32 * 32 + i.val % 32) * 7168 + c.val) / 7168 % 2 = i.val % 2; omega
    | ⟨2, _⟩ => show ((i.val / 32 * 32 + i.val % 32) * 7168 + c.val) % 7168 = c.val; omega)
  rw [e2, e3, v162_at x0 x1 s hs x hx, v154_at x0 x1 s hs x hx]
  have e4 : 2 * (i.val / 2) + i.val % 2 = i.val := by omega
  show rDec (nibOf none (rhtCol s (x c)) (2 * (i.val / 2) + i.val % 2)) * rScale (amax (rhtCol s (x c)) (i.val / 32)) = _
  rw [e4]
  rfl

/-- The scale exponents, batch by batch. -/
theorem v168_at (a : Fin 4) (j : Fin 12) (c : Fin 7168) :
    val_main_v168 (F := Ideal) x0 x1 (ix3 a j c) = rExp (amax (rhtCol s (x c)) (12 * a.val + j.val)) := by
  have ha := a.isLt
  have hj := j.isLt
  have hc := c.isLt
  rw [val_main_v168_apply]
  have e : idx_main_v168 (ix3 a j c) = ix2 (⟨12 * a.val + j.val, by omega⟩ : Fin 48) c := funext fun q => Fin.ext (by
    match q with
    | ⟨0, _⟩ => show ((a.val * 12 + j.val) * 7168 + c.val) / 7168 = 12 * a.val + j.val; omega
    | ⟨1, _⟩ => show ((a.val * 12 + j.val) * 7168 + c.val) % 7168 = c.val; omega)
  rw [e, v40_at x0 x1 s hs x hx]

/-- The product. -/
theorem v167_at (x2 : S2048x1536.Idx → EReal) (n : Fin 2048) (c : Fin 7168) :
    val_main_v167 (F := Ideal) x0 x1 x2 (ix2 n c) = ∑ k : Fin 1536, x2 (ix2 n k) * valOf none (rhtCol s (x c)) k.val := by
  rw [val_main_v167_apply]
  refine Finset.sum_congr rfl fun k _ => ?_
  have el : lidx_main_v167 (ix2 n c) k = ix2 n k := funext fun a => Fin.ext (by
    match a with
    | ⟨0, _⟩ => rfl
    | ⟨1, _⟩ => rfl)
  have er : ridx_main_v167 (ix2 n c) k = ix2 k c := funext fun a => Fin.ext (by
    match a with
    | ⟨0, _⟩ => rfl
    | ⟨1, _⟩ => rfl)
  rw [el, er, v166_at x0 x1 s hs x hx]
end Stages

end Mxfp4.RefX
-- ==== Proof.AsmX.lean ====
/-
  The x kernel's arrays after the run are the reference's results.
-/
module

public import proofs.«01_k».proof.Proof.ReadX
public import proofs.«01_k».proof.Proof.RefX

@[expose] public section

set_option maxRecDepth 16384

noncomputable section

namespace Mxfp4.X

open Idealize.ShloMosaic Idealize.ShloMosaic.TcCoe Idealize.SL Idealize.SL.Sem Cert.KernelIdeal Cert.KernelIdeal.Gen
  Cert.KernelIdeal.Value

variable (m : (ℓ : Loc nD τ sig) → Buf (Elt Ideal) ℓ)

/-- The rows of x as the program is given them. -/
abbrev arg0 (c : Dev nD) : S4x384x7168.Idx → EReal := m ((c.tc : Thread nD τ).loc main_arg0)
/-- The signs as the program is given them. -/
abbrev arg1 (c : Dev nD) : S16.Idx → EReal := m ((c.tc : Thread nD τ).loc main_arg1)
/-- The other operand as the program is given it. -/
abbrev arg2 (c : Dev nD) : S2048x1536.Idx → EReal := m ((c.tc : Thread nD τ).loc main_arg2)

/-- The array the launch reads in place of x is x with its two leading axes joined. -/
theorem rows_eq (c : Dev nD) :
    (V m c main_v0 : S1536x7168.Idx → EReal) = Cert.ReferenceIdeal.Read.val_main_v16 (F := Ideal) (arg0 m c) := by
  show StableHlo.after hostOps0 _ _ = _
  unfold hostOps0
  rw [StableHlo.after_cons, StableHlo.after_nil]
  exact (StableHlo.reshape_result main_arg0 main_v0 _ _ _ _ _).trans rfl

/-- Position `k` of the signs. -/
def one (k : Fin 16) : S16.Idx := fun a => match a with | ⟨0, _⟩ => k

/-- The sixteen signs. -/
def sgn (c : Dev nD) (k : Fin 16) : EReal := arg1 m c (one k)

/-- Column `col` of x, by row number. -/
def col (c : Dev nD) (col : Fin 7168) (i : ℕ) : EReal :=
  if h : i < 1536 then Cert.ReferenceIdeal.Read.val_main_v16 (F := Ideal) (arg0 m c) (ix2 ⟨i, h⟩ col) else 0

/-- The joined rows at row `i` and column `k` are column `k` at `i`. -/
theorem col_at (c : Dev nD) (i : Fin 1536) (k : Fin 7168) :
    Cert.ReferenceIdeal.Read.val_main_v16 (F := Ideal) (arg0 m c) (ix2 i k) = col m c k i.val := by
  unfold col
  rw [dif_pos i.isLt]

/-- The given signs at any index of position `k` are sign `k`. -/
theorem sgn_at (c : Dev nD) (k : Fin 16) (j : S16.Idx) (h : (j 0).val = k.val) : arg1 m c j = sgn m c k := by
  unfold sgn
  congr 1
  funext a
  match a with
  | ⟨0, _⟩ => exact Fin.ext h

/-- Where the input windows' blocks lie. -/
theorem in0 : ∀ t : Fin cfg0.N, win0_0.index t (0 : Fin 1) = 0 := (by decide +kernel : ∀ t : Fin grid0.N, _)
/-- Block `t` of x is the block number `t` of columns. -/
theorem in1 : ∀ t : Fin cfg0.N, win0_1.index t (0 : Fin 2) = 0 ∧ win0_1.index t (1 : Fin 2) = t.val :=
  (by decide +kernel : ∀ t : Fin grid0.N, _)
/-- Every block of the other operand is the first one. -/
theorem in2 : ∀ t : Fin cfg0.N, win0_2.index t (0 : Fin 2) = 0 ∧ win0_2.index t (1 : Fin 2) = 0 :=
  (by decide +kernel : ∀ t : Fin grid0.N, _)

/-- Column `k` of block `t` is column `512 t + k` of the array. -/
def at0 (t : Fin cfg0.N) (k : Fin 512) : Fin 7168 :=
  ⟨512 * t.val + k.val, by have := Nat.lt_of_lt_of_eq t.isLt points; have := k.isLt; omega⟩

/-- The block of x at point `t`. -/
theorem iblk1_at (c : Dev nD) (t : Fin cfg0.N) (i : Fin 1536) (k : Fin 512) :
    (iblk m c 1 t : S1536x512.Idx → EReal) (ix2 i k) = col m c (at0 t k) i.val := by
  obtain ⟨e0, e1⟩ := in1 t
  have h : (((cfg0.win 1).blk t).view.emb (ix2 i k) : S1536x7168.Idx) = ix2 i (at0 t k) := by
    funext a; apply Fin.ext
    match a with
    | ⟨0, _⟩ => show win0_1.index t (0 : Fin 2) * 1536 + 1 * i.val = i.val; omega
    | ⟨1, _⟩ => show win0_1.index t (1 : Fin 2) * 512 + 1 * k.val = 512 * t.val + k.val; omega
  show (V m c main_v0 : S1536x7168.Idx → EReal) (((cfg0.win 1).blk t).view.emb (ix2 i k)) = _
  rw [h, rows_eq, col_at]

/-- The other operand's block is the whole of it. -/
theorem iblk2_at (c : Dev nD) (t : Fin cfg0.N) (i : Fin 2048) (k : Fin 1536) :
    (iblk m c 2 t : S2048x1536.Idx → EReal) (ix2 i k) = arg2 m c (ix2 i k) := by
  obtain ⟨e0, e1⟩ := in2 t
  have h : (((cfg0.win 2).blk t).view.emb (ix2 i k) : S2048x1536.Idx) = ix2 i k := by
    funext a; apply Fin.ext
    match a with
    | ⟨0, _⟩ => show win0_2.index t (0 : Fin 2) * 2048 + 1 * i.val = i.val; omega
    | ⟨1, _⟩ => show win0_2.index t (1 : Fin 2) * 1536 + 1 * k.val = k.val; omega
  show (V m c main_arg2 : S2048x1536.Idx → EReal) (((cfg0.win 2).blk t).view.emb (ix2 i k)) = _
  rw [h, V_main_arg2]

/-- The signs' block is the whole of them. -/
theorem iblk0_at (c : Dev nD) (t : Fin cfg0.N) (k : Fin 16) : (iblk m c 0 t : S16.Idx → EReal) (one k) = sgn m c k := by
  have e0 := in0 t
  have h : (((cfg0.win 0).blk t).view.emb (one k) : S16.Idx) = one k := by
    funext a; apply Fin.ext
    match a with
    | ⟨0, _⟩ => show win0_0.index t (0 : Fin 1) * 16 + 1 * k.val = k.val; omega
  show (V m c main_arg1 : S16.Idx → EReal) (((cfg0.win 0).blk t).view.emb (one k)) = _
  rw [h, V_main_arg1]
  rfl

/-- The matrix the first point computes is the transform's, of the given signs. -/
theorem q_eq (c : Dev nD) : q m c = rhtT bitsLt_bf16_f32 (sgn m c) := by
  unfold q
  congr 1
  funext k
  unfold signs
  exact (View.ld_unit_apply_of (Val := Elt Ideal) (e := EltTy.f32) (iblk m c 0 ⟨0, by decide⟩ : S16.Idx → EReal) ![k.val] S1.size
    (fun a => match a with | ⟨0, _⟩ => k.isLt) _ (one k)
    (fun a => match a with | ⟨0, _⟩ => rfl)).trans (iblk0_at m c ⟨0, by decide⟩ k)

/-- The product's array after the run is the reference's product. -/
theorem dw_final (c : Dev nD) : (dats m 0 c).arrAt 3 cfg0.N
    = (Cert.ReferenceIdeal.Read.val_main_v167 (F := Ideal) (arg0 m c) (arg1 m c) (arg2 m c) : S2048x7168.Idx → EReal) := by
  refine (dats m 0 c).arrAt_eq_of_cover 3 _ (fun t _ => ?_) (fun i => (covered_iff3 i).2 (by
    have h0 : (i 0).val < 2048 := (i 0).isLt
    have h1 : (i 1).val < 7168 := (i 1).isLt
    omega))
  rw [flushed3, dw_at, q_eq]
  obtain ⟨e0, e1, e2, e3, e4⟩ := idx_facts3 t
  funext y
  have hy0 : (y 0).val < 2048 := (y 0).isLt
  have hy1 : (y 1).val < 512 := (y 1).isLt
  have hx : (cfg0.win 3).xinj (grid0.coords t) y = (ix2 ⟨(y 0).val, hy0⟩ ⟨(y 1).val, hy1⟩ : S2048x512.Idx) := by
    funext a; apply Fin.ext
    match a with
    | ⟨0, _⟩ => rfl
    | ⟨1, _⟩ => rfl
  have hb : (((cfg0.win 3).blk t).view.emb y : S2048x7168.Idx) = ix2 ⟨(y 0).val, hy0⟩ (at0 t ⟨(y 1).val, hy1⟩) := by
    funext a; apply Fin.ext
    match a with
    | ⟨0, _⟩ => show win0_3.index t (0 : Fin 2) * 2048 + 1 * (y 0).val = (y 0).val; omega
    | ⟨1, _⟩ => show win0_3.index t (1 : Fin 2) * 512 + 1 * (y 1).val = 512 * t.val + (y 1).val; omega
  show (dw _ (iblk m c 1 t) (iblk m c 2 t)) ((cfg0.win 3).xinj (grid0.coords t) y)
    = Cert.ReferenceIdeal.Read.val_main_v167 (F := Ideal) (arg0 m c) (arg1 m c) (arg2 m c) (((cfg0.win 3).blk t).view.emb y)
  rw [hx, hb, dw_apply (sgn m c) (iblk m c 1 t) (fun k => col m c (at0 t k)) (iblk1_at m c t),
    RefX.v167_at (arg0 m c) (arg1 m c) (sgn m c) (sgn_at m c) (col m c) (col_at m c)]
  exact Finset.sum_congr rfl fun k _ => by rw [iblk2_at]

/-- The codes' array after the run is the reference's codes. -/
theorem codes_final (c : Dev nD) : (dats m 0 c).arrAt 4 cfg0.N
    = (Cert.ReferenceIdeal.Read.val_main_v96 (F := Ideal) (arg0 m c) (arg1 m c) : S768x7168.Idx → BitVec 8) := by
  refine (dats m 0 c).arrAt_eq_of_cover 4 _ (fun t _ => ?_) (fun i => (covered_iff4 i).2 (by
    have h0 : (i 0).val < 768 := (i 0).isLt
    have h1 : (i 1).val < 7168 := (i 1).isLt
    omega))
  rw [flushed4, codes_at, q_eq]
  obtain ⟨e0, e1, e2, e3, e4⟩ := idx_facts4 t
  funext y
  have hy0 : (y 0).val < 768 := (y 0).isLt
  have hy1 : (y 1).val < 512 := (y 1).isLt
  have hx : (cfg0.win 4).xinj (grid0.coords t) y = (ix2 ⟨(y 0).val, hy0⟩ ⟨(y 1).val, hy1⟩ : S768x512.Idx) := by
    funext a; apply Fin.ext
    match a with
    | ⟨0, _⟩ => rfl
    | ⟨1, _⟩ => rfl
  have hb : (((cfg0.win 4).blk t).view.emb y : S768x7168.Idx) = ix2 ⟨(y 0).val, hy0⟩ (at0 t ⟨(y 1).val, hy1⟩) := by
    funext a; apply Fin.ext
    match a with
    | ⟨0, _⟩ => show win0_4.index t (0 : Fin 2) * 768 + 1 * (y 0).val = (y 0).val; omega
    | ⟨1, _⟩ => show win0_4.index t (1 : Fin 2) * 512 + 1 * (y 1).val = 512 * t.val + (y 1).val; omega
  show (codesAll _ (iblk m c 1 t)) ((cfg0.win 4).xinj (grid0.coords t) y)
    = Cert.ReferenceIdeal.Read.val_main_v96 (F := Ideal) (arg0 m c) (arg1 m c) (((cfg0.win 4).blk t).view.emb y)
  rw [hx, hb, codesAll_apply (sgn m c) (iblk m c 1 t) (fun k => col m c (at0 t k)) (iblk1_at m c t),
    RefX.v96_at (arg0 m c) (arg1 m c) (sgn m c) (sgn_at m c) (col m c) (col_at m c)]
  rfl

/-- The exponents' array after the run is the reference's exponents. -/
theorem exps_final (c : Dev nD) : (dats m 0 c).arrAt 5 cfg0.N
    = (Cert.ReferenceIdeal.Read.val_main_v168 (F := Ideal) (arg0 m c) (arg1 m c) : S4x12x7168.Idx → BitVec 8) := by
  refine (dats m 0 c).arrAt_eq_of_cover 5 _ (fun t _ => ?_) (fun i => (covered_iff5 i).2 (by
    have h0 : (i 0).val < 4 := (i 0).isLt
    have h1 : (i 1).val < 12 := (i 1).isLt
    have h2 : (i 2).val < 7168 := (i 2).isLt
    omega))
  rw [flushed5, exps_at, q_eq]
  obtain ⟨e0, e1, e2, e3, e4, e5, e6⟩ := idx_facts5 t
  funext y
  have hy0 : (y 0).val < 4 := (y 0).isLt
  have hy1 : (y 1).val < 12 := (y 1).isLt
  have hy2 : (y 2).val < 512 := (y 2).isLt
  have hx : (cfg0.win 5).xinj (grid0.coords t) y = (ix3 ⟨(y 0).val, hy0⟩ ⟨(y 1).val, hy1⟩ ⟨(y 2).val, hy2⟩ : S4x12x512.Idx) := by
    funext a; apply Fin.ext
    match a with
    | ⟨0, _⟩ => rfl
    | ⟨1, _⟩ => rfl
    | ⟨2, _⟩ => rfl
  have hb : (((cfg0.win 5).blk t).view.emb y : S4x12x7168.Idx)
      = ix3 ⟨(y 0).val, hy0⟩ ⟨(y 1).val, hy1⟩ (at0 t ⟨(y 2).val, hy2⟩) := by
    funext a; apply Fin.ext
    match a with
    | ⟨0, _⟩ => show win0_5.index t (0 : Fin 3) * 4 + 1 * (y 0).val = (y 0).val; omega
    | ⟨1, _⟩ => show win0_5.index t (1 : Fin 3) * 12 + 1 * (y 1).val = (y 1).val; omega
    | ⟨2, _⟩ => show win0_5.index t (2 : Fin 3) * 512 + 1 * (y 2).val = 512 * t.val + (y 2).val; omega
  show (expsAll _ (iblk m c 1 t)) ((cfg0.win 5).xinj (grid0.coords t) y)
    = Cert.ReferenceIdeal.Read.val_main_v168 (F := Ideal) (arg0 m c) (arg1 m c) (((cfg0.win 5).blk t).view.emb y)
  rw [hx, hb, expsAll_apply (sgn m c) (iblk m c 1 t) (fun k => col m c (at0 t k)) (iblk1_at m c t),
    RefX.v168_at (arg0 m c) (arg1 m c) (sgn m c) (sgn_at m c) (col m c) (col_at m c)]
  rfl

end Mxfp4.X
-- ==== Proof.KernelDy.lean ====
/-
  What one grid point of the dy kernel stores, as a function of the transform's matrix and of the point's blocks.
-/
module

public import proofs.«01_k».proof.Proof.Gen.DyIdeal.Value
public import proofs.«01_k».proof.Proof.Tile

@[expose] public section

set_option maxRecDepth 16384
noncomputable section

namespace Mxfp4.Dy

open Idealize.ShloMosaic Idealize.ShloMosaic.TcCoe Idealize.ShloMosaic.Tactic
open Idealize.SL Idealize.SL.Sem Cert.DyIdeal Cert.DyIdeal.Gen

variable (m : (ℓ : Loc nD τ sig) → Buf (Elt Ideal) ℓ)

/-- The 256 rows of a block of dy at `off`. -/
def tile (X : Vec Ideal S1536x256 .bf16) (off : Nat)
    (h : ∀ a, (![off, 0] : Fin 2 → Nat) a + S256x256.size a ≤ S1536x256.size a) : Vec Ideal S256x256 .bf16 :=
  View.ld (Val := Elt Ideal) (e' := EltTy.bf16) X (Rect.unit (s := S1536x256) ![off, 0] S256x256.size h)

/-- The 256 rows of a block of random bytes at `off`. -/
def bits (B : Vec Ideal S1536x256 .i8) (off : Nat)
    (h : ∀ a, (![off, 0] : Fin 2 → Nat) a + S256x256.size a ≤ S1536x256.size a) : Vec Ideal S256x256 .i8 :=
  View.ld (Val := Elt Ideal) (e' := EltTy.i8) B (Rect.unit (s := S1536x256) ![off, 0] S256x256.size h)

/-- The transformed tile. -/
def v (Q : Vec Ideal S256x256 .bf16) (X : Vec Ideal S256x256 .bf16) : FVec Ideal S256x256 .f32 :=
  matmul dot_S256x256_S256x256_S256x256_1_0_0_1_n_n none (φ₁ := .bf16) (φ₂ := .bf16) Q
    (shapeCast S256x256 X shapeCasts_S256x256_S256x256) (constant S256x256 .f32 0x00000000#32)

/-- The scaled tile, rounded stochastically by the random bytes. -/
def w (Q : Vec Ideal S256x256 .bf16) (X : Vec Ideal S256x256 .bf16) (B : Vec Ideal S256x256 .i8) : FVec Ideal S256x256 .f32 :=
  srT facts256 bitsLt_bf16_f32 (v Q X) (invT facts256 (v Q X)) (shapeCast S256x256 B shapeCasts_S256x256_S256x256)

/-- The tile's codes. -/
def codes (Q : Vec Ideal S256x256 .bf16) (X : Vec Ideal S256x256 .bf16) (B : Vec Ideal S256x256 .i8) : IVec S128x256 8 :=
  codesT facts256 (nibV (w Q X B))

/-- The tile's scale exponents. -/
def se (Q : Vec Ideal S256x256 .bf16) (X : Vec Ideal S256x256 .bf16) : IVec S8x256 32 :=
  shapeCast S8x256 (seT facts256 (v Q X)) shapeCasts_S8x256_S8x256

/-- The tile's dequantised values, transposed. -/
def val (Q : Vec Ideal S256x256 .bf16) (X : Vec Ideal S256x256 .bf16) (B : Vec Ideal S256x256 .i8) : FVec Ideal S256x256 .bf16 :=
  transpose S256x256 [1, 0] (valT facts256 bitsLt_bf16_f32 (f4V (w Q X B)) (pairT facts256 (v Q X)))
    transposes_S256x256_p1_0_S256x256

/-- The codes of the six tiles, one under the other. -/
def codesAll (Q : Vec Ideal S256x256 .bf16) (X : Vec Ideal S1536x256 .bf16) (B : Vec Ideal S1536x256 .i8) : Vec Ideal S768x256 .i8 :=
  View.canon (Val := Elt Ideal) (e := .i8) (s := S768x256) [⟨Rect.unit (s := S768x256) ![640, 0] S128x256.size inb_S768x256_S128x256_640_0,
      codes Q (tile X 1280 inb_S1536x256_S256x256_1280_0) (bits B 1280 inb_S1536x256_S256x256_1280_0)⟩,
    ⟨Rect.unit (s := S768x256) ![512, 0] S128x256.size inb_S768x256_S128x256_512_0,
      codes Q (tile X 1024 inb_S1536x256_S256x256_1024_0) (bits B 1024 inb_S1536x256_S256x256_1024_0)⟩,
    ⟨Rect.unit (s := S768x256) ![384, 0] S128x256.size inb_S768x256_S128x256_384_0,
      codes Q (tile X 768 inb_S1536x256_S256x256_768_0) (bits B 768 inb_S1536x256_S256x256_768_0)⟩,
    ⟨Rect.unit (s := S768x256) ![256, 0] S128x256.size inb_S768x256_S128x256_256_0,
      codes Q (tile X 512 inb_S1536x256_S256x256_512_0) (bits B 512 inb_S1536x256_S256x256_512_0)⟩,
    ⟨Rect.unit (s := S768x256) ![128, 0] S128x256.size inb_S768x256_S128x256_128_0,
      codes Q (tile X 256 inb_S1536x256_S256x256_256_0) (bits B 256 inb_S1536x256_S256x256_256_0)⟩,
    ⟨Rect.unit (s := S768x256) ![0, 0] S128x256.size inb_S768x256_S128x256_0_0,
      codes Q (tile X 0 inb_S1536x256_S256x256_0_0) (bits B 0 inb_S1536x256_S256x256_0_0)⟩]

/-- The scale exponents of the six tiles, one under the other. -/
def seAll (Q : Vec Ideal S256x256 .bf16) (X : Vec Ideal S1536x256 .bf16) : Vec Ideal S48x256 .i32 :=
  View.canon (Val := Elt Ideal) (e := .i32) (s := S48x256) [⟨Rect.unit (s := S48x256) ![40, 0] S8x256.size inb_S48x256_S8x256_40_0,
      se Q (tile X 1280 inb_S1536x256_S256x256_1280_0)⟩,
    ⟨Rect.unit (s := S48x256) ![32, 0] S8x256.size inb_S48x256_S8x256_32_0,
      se Q (tile X 1024 inb_S1536x256_S256x256_1024_0)⟩,
    ⟨Rect.unit (s := S48x256) ![24, 0] S8x256.size inb_S48x256_S8x256_24_0,
      se Q (tile X 768 inb_S1536x256_S256x256_768_0)⟩,
    ⟨Rect.unit (s := S48x256) ![16, 0] S8x256.size inb_S48x256_S8x256_16_0,
      se Q (tile X 512 inb_S1536x256_S256x256_512_0)⟩,
    ⟨Rect.unit (s := S48x256) ![8, 0] S8x256.size inb_S48x256_S8x256_8_0,
      se Q (tile X 256 inb_S1536x256_S256x256_256_0)⟩,
    ⟨Rect.unit (s := S48x256) ![0, 0] S8x256.size inb_S48x256_S8x256_0_0,
      se Q (tile X 0 inb_S1536x256_S256x256_0_0)⟩]

/-- The dequantised values of the six tiles, one beside the other. -/
def valAll (Q : Vec Ideal S256x256 .bf16) (X : Vec Ideal S1536x256 .bf16) (B : Vec Ideal S1536x256 .i8) : Vec Ideal S256x1536 .bf16 :=
  View.canon (Val := Elt Ideal) (e := .bf16) (s := S256x1536) [⟨Rect.unit (s := S256x1536) ![0, 1280] S256x256.size inb_S256x1536_S256x256_0_1280,
      val Q (tile X 1280 inb_S1536x256_S256x256_1280_0) (bits B 1280 inb_S1536x256_S256x256_1280_0)⟩,
    ⟨Rect.unit (s := S256x1536) ![0, 1024] S256x256.size inb_S256x1536_S256x256_0_1024,
      val Q (tile X 1024 inb_S1536x256_S256x256_1024_0) (bits B 1024 inb_S1536x256_S256x256_1024_0)⟩,
    ⟨Rect.unit (s := S256x1536) ![0, 768] S256x256.size inb_S256x1536_S256x256_0_768,
      val Q (tile X 768 inb_S1536x256_S256x256_768_0) (bits B 768 inb_S1536x256_S256x256_768_0)⟩,
    ⟨Rect.unit (s := S256x1536) ![0, 512] S256x256.size inb_S256x1536_S256x256_0_512,
      val Q (tile X 512 inb_S1536x256_S256x256_512_0) (bits B 512 inb_S1536x256_S256x256_512_0)⟩,
    ⟨Rect.unit (s := S256x1536) ![0, 256] S256x256.size inb_S256x1536_S256x256_0_256,
      val Q (tile X 256 inb_S1536x256_S256x256_256_0) (bits B 256 inb_S1536x256_S256x256_256_0)⟩,
    ⟨Rect.unit (s := S256x1536) ![0, 0] S256x256.size inb_S256x1536_S256x256_0_0,
      val Q (tile X 0 inb_S1536x256_S256x256_0_0) (bits B 0 inb_S1536x256_S256x256_0_0)⟩]

/-- Twelve rows of the scale exponents at `off`, as bytes. -/
def exps1 (Q : Vec Ideal S256x256 .bf16) (X : Vec Ideal S1536x256 .bf16) (off : Nat)
    (h : ∀ a, (![off, 0] : Fin 2 → Nat) a + S12x256.size a ≤ S48x256.size a) : IVec S1x12x256 8 :=
  shapeCast S1x12x256 (trunci 8 (View.ld (Val := Elt Ideal) (e' := EltTy.i32) (seAll Q X) (Rect.unit (s := S48x256) ![off, 0] S12x256.size h)))
    shapeCasts_S12x256_S1x12x256

/-- The scale exponents of the four batches. -/
def expsAll (Q : Vec Ideal S256x256 .bf16) (X : Vec Ideal S1536x256 .bf16) : Vec Ideal S4x12x256 .i8 :=
  View.canon (Val := Elt Ideal) (e := .i8) (s := S4x12x256) [⟨Rect.unit (s := S4x12x256) ![3, 0, 0] S1x12x256.size inb_S4x12x256_S1x12x256_3_0_0, exps1 Q X 36 inb_S48x256_S12x256_36_0⟩,
    ⟨Rect.unit (s := S4x12x256) ![2, 0, 0] S1x12x256.size inb_S4x12x256_S1x12x256_2_0_0, exps1 Q X 24 inb_S48x256_S12x256_24_0⟩,
    ⟨Rect.unit (s := S4x12x256) ![1, 0, 0] S1x12x256.size inb_S4x12x256_S1x12x256_1_0_0, exps1 Q X 12 inb_S48x256_S12x256_12_0⟩,
    ⟨Rect.unit (s := S4x12x256) ![0, 0, 0] S1x12x256.size inb_S4x12x256_S1x12x256_0_0_0, exps1 Q X 0 inb_S48x256_S12x256_0_0⟩]

/-- The sixteen signs. -/
def signs (S : Vec Ideal S16 .f32) (k : Fin 16) : EReal :=
  View.ld (Val := Elt Ideal) (e' := EltTy.f32) S
    (Rect.unit (s := S16) ![k.val] S1.size (fun a => match a with | ⟨0, _⟩ => k.isLt)) (Shape.Idx.first (s := S1) (by decide))

set_option maxHeartbeats 1600000 in
/-- What the first point leaves: the codes. -/
theorem codes_A (c : Dev nD) (t : Fin cfg0.N) (h0 : t.val % 8 = 0) :
    (outsAt0 m c t.val t.isLt).1 = codesAll (rhtT bitsLt_bf16_f32 (signs (iblk m c 0 t))) (iblk m c 1 t) (iblk m c 2 t) := by
  obtain ⟨Q, hQ⟩ : ∃ Q, Q = rhtT bitsLt_bf16_f32 (signs (iblk m c 0 t)) := ⟨_, rfl⟩
  rw [← hQ, outsAt0_A m c t h0]; dsimp only
  unfold out0_A_3
  rw [View.read_writes_junk_eq_canon]
  unfold kernelRun0_A; dsimp only
  sl_unfold_words
  simp only [View.readAt_eq_ld, (hs0_0 t).read_unread, (hs0_1 t).read_unread, (hs0_2 t).read_unread, (Memref.isWhole_whole cc0_scratch0).read_unread,
    View.ld_unit_lit (S := S256x256) _ _ (by decide : ∀ a, (![0,0] : Fin 2 → Nat) a = 0),
    View.readCov_fill (s := S8x256) _ _ _ _ _ (by decide : ∀ a, (![0,0] : Fin 2 → Nat) a = 0),
    View.readCov_fill (s := S256x256) _ _ _ _ _ (by decide : ∀ a, (![0,0] : Fin 2 → Nat) a = 0), readCov_ld]
  generalize hG : k0_pay8 (F := Ideal) _ _ _ _ _ _ _ _ = Q'
  have hQ' : Q' = Q := by rw [← hG, hQ]; rfl
  clear hG
  subst hQ'
  rfl

set_option maxHeartbeats 1600000 in
/-- What the first point leaves: the scale exponents. -/
theorem exps_A (c : Dev nD) (t : Fin cfg0.N) (h0 : t.val % 8 = 0) :
    (outsAt0 m c t.val t.isLt).2.1 = expsAll (rhtT bitsLt_bf16_f32 (signs (iblk m c 0 t))) (iblk m c 1 t) := by
  obtain ⟨Q, hQ⟩ : ∃ Q, Q = rhtT bitsLt_bf16_f32 (signs (iblk m c 0 t)) := ⟨_, rfl⟩
  rw [← hQ, outsAt0_A m c t h0]; dsimp only
  unfold out0_A_4
  rw [View.read_writes_junk_eq_canon]
  unfold kernelRun0_A; dsimp only
  sl_unfold_words
  simp only [View.readAt_eq_ld, (hs0_0 t).read_unread, (hs0_1 t).read_unread, (hs0_2 t).read_unread, (Memref.isWhole_whole cc0_scratch0).read_unread,
    View.ld_unit_lit (S := S256x256) _ _ (by decide : ∀ a, (![0,0] : Fin 2 → Nat) a = 0),
    View.readCov_fill (s := S8x256) _ _ _ _ _ (by decide : ∀ a, (![0,0] : Fin 2 → Nat) a = 0),
    View.readCov_fill (s := S256x256) _ _ _ _ _ (by decide : ∀ a, (![0,0] : Fin 2 → Nat) a = 0), readCov_ld]
  generalize hG : k0_pay8 (F := Ideal) _ _ _ _ _ _ _ _ = Q'
  have hQ' : Q' = Q := by rw [← hG, hQ]; rfl
  clear hG
  subst hQ'
  rfl

set_option maxHeartbeats 1600000 in
/-- What the first point leaves: the dequantised values, transposed. -/
theorem vals_A (c : Dev nD) (t : Fin cfg0.N) (h0 : t.val % 8 = 0) :
    (outsAt0 m c t.val t.isLt).2.2.1 = valAll (rhtT bitsLt_bf16_f32 (signs (iblk m c 0 t))) (iblk m c 1 t) (iblk m c 2 t) := by
  obtain ⟨Q, hQ⟩ : ∃ Q, Q = rhtT bitsLt_bf16_f32 (signs (iblk m c 0 t)) := ⟨_, rfl⟩
  rw [← hQ, outsAt0_A m c t h0]; dsimp only
  unfold out0_A_5
  rw [View.read_writes_junk_eq_canon]
  unfold kernelRun0_A; dsimp only
  sl_unfold_words
  simp only [View.readAt_eq_ld, (hs0_0 t).read_unread, (hs0_1 t).read_unread, (hs0_2 t).read_unread, (Memref.isWhole_whole cc0_scratch0).read_unread,
    View.ld_unit_lit (S := S256x256) _ _ (by decide : ∀ a, (![0,0] : Fin 2 → Nat) a = 0),
    View.readCov_fill (s := S8x256) _ _ _ _ _ (by decide : ∀ a, (![0,0] : Fin 2 → Nat) a = 0),
    View.readCov_fill (s := S256x256) _ _ _ _ _ (by decide : ∀ a, (![0,0] : Fin 2 → Nat) a = 0), readCov_ld]
  generalize hG : k0_pay8 (F := Ideal) _ _ _ _ _ _ _ _ = Q'
  have hQ' : Q' = Q := by rw [← hG, hQ]; rfl
  clear hG
  subst hQ'
  rfl

set_option maxHeartbeats 1600000 in
/-- What the first point leaves: the matrix. -/
theorem scratch_A (c : Dev nD) (t : Fin cfg0.N) (h0 : t.val % 8 = 0) :
    (outsAt0 m c t.val t.isLt).2.2.2 = (rhtT bitsLt_bf16_f32 (signs (iblk m c 0 t))) := by
  obtain ⟨Q, hQ⟩ : ∃ Q, Q = rhtT bitsLt_bf16_f32 (signs (iblk m c 0 t)) := ⟨_, rfl⟩
  rw [← hQ, outsAt0_A m c t h0]; dsimp only
  unfold sout0_A_0
  rw [View.read_writes_junk_eq_canon]
  unfold kernelRun0_A; dsimp only
  sl_unfold_words
  simp only [View.readAt_eq_ld, (hs0_0 t).read_unread, (hs0_1 t).read_unread, (hs0_2 t).read_unread, (Memref.isWhole_whole cc0_scratch0).read_unread,
    View.ld_unit_lit (S := S256x256) _ _ (by decide : ∀ a, (![0,0] : Fin 2 → Nat) a = 0),
    View.readCov_fill (s := S8x256) _ _ _ _ _ (by decide : ∀ a, (![0,0] : Fin 2 → Nat) a = 0),
    View.readCov_fill (s := S256x256) _ _ _ _ _ (by decide : ∀ a, (![0,0] : Fin 2 → Nat) a = 0), readCov_ld]
  refine (View.canon_unit_zero (S := S256x256) (by decide) _ _).trans ?_
  rw [hQ]; rfl

set_option maxHeartbeats 1600000 in
/-- What a later point, which reads the matrix `Q` the point before it left, leaves: the codes. -/
theorem codes_B (c : Dev nD) (t : Fin cfg0.N) (h0 : ¬t.val % 8 = 0) (Q : Vec Ideal S256x256 .bf16)
    (hQ : (outsAt0 m c (t.val - 1) (Nat.lt_of_le_of_lt (Nat.sub_le _ _) t.isLt)).2.2.2 = Q) :
    (outsAt0 m c t.val t.isLt).1 = codesAll Q (iblk m c 1 t) (iblk m c 2 t) := by
  rw [outsAt0_B m c t h0]; dsimp only
  rw [hQ]
  unfold out0_B_3
  rw [View.read_writes_junk_eq_canon]
  unfold kernelRun0_B; dsimp only
  sl_unfold_words
  simp only [View.readAt_eq_ld, (hs0_0 t).read_unread, (hs0_1 t).read_unread, (hs0_2 t).read_unread, (Memref.isWhole_whole cc0_scratch0).read_unread,
    View.ld_unit_lit (S := S256x256) _ _ (by decide : ∀ a, (![0,0] : Fin 2 → Nat) a = 0),
    View.readCov_fill (s := S8x256) _ _ _ _ _ (by decide : ∀ a, (![0,0] : Fin 2 → Nat) a = 0),
    View.readCov_fill (s := S256x256) _ _ _ _ _ (by decide : ∀ a, (![0,0] : Fin 2 → Nat) a = 0), readCov_ld]
  rfl

set_option maxHeartbeats 1600000 in
/-- What a later point, which reads the matrix `Q` the point before it left, leaves: the scale exponents. -/
theorem exps_B (c : Dev nD) (t : Fin cfg0.N) (h0 : ¬t.val % 8 = 0) (Q : Vec Ideal S256x256 .bf16)
    (hQ : (outsAt0 m c (t.val - 1) (Nat.lt_of_le_of_lt (Nat.sub_le _ _) t.isLt)).2.2.2 = Q) :
    (outsAt0 m c t.val t.isLt).2.1 = expsAll Q (iblk m c 1 t) := by
  rw [outsAt0_B m c t h0]; dsimp only
  rw [hQ]
  unfold out0_B_4
  rw [View.read_writes_junk_eq_canon]
  unfold kernelRun0_B; dsimp only
  sl_unfold_words
  simp only [View.readAt_eq_ld, (hs0_0 t).read_unread, (hs0_1 t).read_unread, (hs0_2 t).read_unread, (Memref.isWhole_whole cc0_scratch0).read_unread,
    View.ld_unit_lit (S := S256x256) _ _ (by decide : ∀ a, (![0,0] : Fin 2 → Nat) a = 0),
    View.readCov_fill (s := S8x256) _ _ _ _ _ (by decide : ∀ a, (![0,0] : Fin 2 → Nat) a = 0),
    View.readCov_fill (s := S256x256) _ _ _ _ _ (by decide : ∀ a, (![0,0] : Fin 2 → Nat) a = 0), readCov_ld]
  rfl

set_option maxHeartbeats 1600000 in
/-- What a later point, which reads the matrix `Q` the point before it left, leaves: the dequantised values, transposed. -/
theorem vals_B (c : Dev nD) (t : Fin cfg0.N) (h0 : ¬t.val % 8 = 0) (Q : Vec Ideal S256x256 .bf16)
    (hQ : (outsAt0 m c (t.val - 1) (Nat.lt_of_le_of_lt (Nat.sub_le _ _) t.isLt)).2.2.2 = Q) :
    (outsAt0 m c t.val t.isLt).2.2.1 = valAll Q (iblk m c 1 t) (iblk m c 2 t) := by
  rw [outsAt0_B m c t h0]; dsimp only
  rw [hQ]
  unfold out0_B_5
  rw [View.read_writes_junk_eq_canon]
  unfold kernelRun0_B; dsimp only
  sl_unfold_words
  simp only [View.readAt_eq_ld, (hs0_0 t).read_unread, (hs0_1 t).read_unread, (hs0_2 t).read_unread, (Memref.isWhole_whole cc0_scratch0).read_unread,
    View.ld_unit_lit (S := S256x256) _ _ (by decide : ∀ a, (![0,0] : Fin 2 → Nat) a = 0),
    View.readCov_fill (s := S8x256) _ _ _ _ _ (by decide : ∀ a, (![0,0] : Fin 2 → Nat) a = 0),
    View.readCov_fill (s := S256x256) _ _ _ _ _ (by decide : ∀ a, (![0,0] : Fin 2 → Nat) a = 0), readCov_ld]
  rfl

set_option maxHeartbeats 1600000 in
/-- What a later point, which reads the matrix `Q` the point before it left, leaves: the matrix. -/
theorem scratch_B (c : Dev nD) (t : Fin cfg0.N) (h0 : ¬t.val % 8 = 0) (Q : Vec Ideal S256x256 .bf16)
    (hQ : (outsAt0 m c (t.val - 1) (Nat.lt_of_le_of_lt (Nat.sub_le _ _) t.isLt)).2.2.2 = Q) :
    (outsAt0 m c t.val t.isLt).2.2.2 = Q := by
  rw [outsAt0_B m c t h0]; dsimp only
  exact hQ

/-- The matrix the first point computes. -/
def q (c : Dev nD) : Vec Ideal S256x256 .bf16 := rhtT bitsLt_bf16_f32 (signs (iblk m c 0 ⟨0, by decide⟩))

/-- The grid has 8 points. -/
theorem points : cfg0.N = 8 := by decide

/-- A point whose number is a multiple of 8 is the first. -/
theorem first_of (t : Fin cfg0.N) (h : t.val % 8 = 0) : t = ⟨0, by decide⟩ := by
  have := Nat.lt_of_lt_of_eq t.isLt points
  exact Fin.ext (by show t.val = 0; omega)

/-- Every point leaves the first point's matrix. -/
theorem scratch_at (c : Dev nD) (t : Fin cfg0.N) : (outsAt0 m c t.val t.isLt).2.2.2 = q m c := by
  obtain ⟨n, hn⟩ := t
  induction n with
  | zero => exact scratch_A m c ⟨0, hn⟩ (Nat.zero_mod _)
  | succ k ih =>
    have h0 : ¬(⟨k + 1, hn⟩ : Fin cfg0.N).val % 8 = 0 := by
      have := Nat.lt_of_lt_of_eq hn points
      show ¬(k + 1) % 8 = 0
      omega
    exact scratch_B m c ⟨k + 1, hn⟩ h0 _ (ih (Nat.lt_of_succ_lt hn))

/-- What every point leaves: its own blocks' values under the first point's matrix. -/
theorem codes_at (c : Dev nD) (t : Fin cfg0.N) :
    (outsAt0 m c t.val t.isLt).1 = codesAll (q m c) (iblk m c 1 t) (iblk m c 2 t) := by
  by_cases h0 : t.val % 8 = 0
  · have h := codes_A m c t h0
    rw [h, q, ← first_of t h0]
  · have hQ : (outsAt0 m c (t.val - 1) (Nat.lt_of_le_of_lt (Nat.sub_le _ _) t.isLt)).2.2.2 = q m c :=
      scratch_at m c ⟨t.val - 1, Nat.lt_of_le_of_lt (Nat.sub_le _ _) t.isLt⟩
    exact codes_B m c t h0 _ hQ

/-- What every point leaves: its own blocks' values under the first point's matrix. -/
theorem exps_at (c : Dev nD) (t : Fin cfg0.N) :
    (outsAt0 m c t.val t.isLt).2.1 = expsAll (q m c) (iblk m c 1 t) := by
  by_cases h0 : t.val % 8 = 0
  · have h := exps_A m c t h0
    rw [h, q, ← first_of t h0]
  · have hQ : (outsAt0 m c (t.val - 1) (Nat.lt_of_le_of_lt (Nat.sub_le _ _) t.isLt)).2.2.2 = q m c :=
      scratch_at m c ⟨t.val - 1, Nat.lt_of_le_of_lt (Nat.sub_le _ _) t.isLt⟩
    exact exps_B m c t h0 _ hQ

/-- What every point leaves: its own blocks' values under the first point's matrix. -/
theorem vals_at (c : Dev nD) (t : Fin cfg0.N) :
    (outsAt0 m c t.val t.isLt).2.2.1 = valAll (q m c) (iblk m c 1 t) (iblk m c 2 t) := by
  by_cases h0 : t.val % 8 = 0
  · have h := vals_A m c t h0
    rw [h, q, ← first_of t h0]
  · have hQ : (outsAt0 m c (t.val - 1) (Nat.lt_of_le_of_lt (Nat.sub_le _ _) t.isLt)).2.2.2 = q m c :=
      scratch_at m c ⟨t.val - 1, Nat.lt_of_le_of_lt (Nat.sub_le _ _) t.isLt⟩
    exact vals_B m c t h0 _ hQ

end Mxfp4.Dy
-- ==== Proof.ReadDy.lean ====
/-
  What a grid point of the dy kernel stores, element by element, as the quantiser's functions of the transformed columns.
-/
module

public import proofs.«01_k».proof.Proof.KernelDy
public import proofs.«01_k».proof.Proof.Col

@[expose] public section

set_option maxRecDepth 16384

noncomputable section

namespace Mxfp4.Dy

open Idealize.ShloMosaic Idealize.ShloMosaic.Tactic Cert.DyIdeal Cert.DyIdeal.Gen

/-- The product's left operand is read at the result's row. -/
theorem v_lhs (i : S256x256.Idx) (q : dot_S256x256_S256x256_S256x256_1_0_0_1_n_n.contr.Idx) : (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide),
    dif_pos (show (0 : Fin S256x256.rank) ∈ dot_S256x256_S256x256_S256x256_1_0_0_1_n_n.lhsNonContracting by decide)]
  rfl

/-- The product's right operand is read at the result's column. -/
theorem v_rhs (i : S256x256.Idx) (q : dot_S256x256_S256x256_S256x256_1_0_0_1_n_n.contr.Idx) : (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide),
    dif_pos (show (1 : Fin S256x256.rank) ∈ dot_S256x256_S256x256_S256x256_1_0_0_1_n_n.rhsNonContracting by decide)]
  rfl

/-- The product by the transform's matrix is a sum of 256 terms. -/
theorem v_sum (Q : Vec Ideal S256x256 .bf16) (X : Vec Ideal S256x256 .bf16) (i : Fin 256) (c : Fin 256) :
    v Q X (ix2 i c) = ∑ k : Fin 256, (Q : S256x256.Idx → EReal) (ix2 i k) * (X : S256x256.Idx → EReal) (ix2 k c) := by
  unfold v
  rw [shapeCast_self]
  refine (Ideal.matmul_constant_zero_apply dot_S256x256_S256x256_S256x256_1_0_0_1_n_n none (φ₁ := .bf16) (φ₂ := .bf16) Q X (ix2 i c)).trans ?_
  rw [← Equiv.sum_comp (ValueIdx.contrEquiv1 dot_S256x256_S256x256_S256x256_1_0_0_1_n_n 256 rfl rfl).symm]
  refine Finset.sum_congr rfl fun k _ => ?_
  have hk := ValueIdx.contrEquiv1_symm_val dot_S256x256_S256x256_S256x256_1_0_0_1_n_n 256 rfl rfl k
  have el : dot_S256x256_S256x256_S256x256_1_0_0_1_n_n.lhsIdx (ix2 i c)
      ((ValueIdx.contrEquiv1 dot_S256x256_S256x256_S256x256_1_0_0_1_n_n 256 rfl rfl).symm k) = ix2 i k := funext fun a => Fin.ext (by
    match a with
    | ⟨0, _⟩ => exact v_lhs _ _
    | ⟨1, _⟩ => exact (dot_S256x256_S256x256_S256x256_1_0_0_1_n_n.lhsIdx_val_of_single rfl _ _).trans hk)
  have er : dot_S256x256_S256x256_S256x256_1_0_0_1_n_n.rhsIdx (ix2 i c)
      ((ValueIdx.contrEquiv1 dot_S256x256_S256x256_S256x256_1_0_0_1_n_n 256 rfl rfl).symm k) = ix2 k c := funext fun a => Fin.ext (by
    match a with
    | ⟨0, _⟩ => exact (dot_S256x256_S256x256_S256x256_1_0_0_1_n_n.rhsIdx_val_of_single rfl _ _).trans hk
    | ⟨1, _⟩ => exact v_rhs _ _)
  rw [el, er]

/-- A tile of the random bytes. -/
theorem bits_apply (B : Vec Ideal S1536x256 .i8) (b : Fin 256 → ℕ → BitVec 8)
    (hB : ∀ (i : Fin 1536) (c : Fin 256), (B : S1536x256.Idx → BitVec 8) (ix2 i c) = b c i.val)
    (t off : ℕ) (ho : off = 256 * t) (h : ∀ a, (![off, 0] : Fin 2 → Nat) a + S256x256.size a ≤ S1536x256.size a)
    (c : Fin 256) (i : Fin 256) :
    (shapeCast S256x256 (bits B off h) shapeCasts_S256x256_S256x256 : S256x256.Idx → BitVec 8) (ix2 i c) = b c (256 * t + i.val) := by
  have h0 : off + 256 ≤ 1536 := h 0
  rw [shapeCast_self, ← ho]
  exact (View.ld_unit_apply_of (Val := Elt Ideal) (e := EltTy.i8) B ![off, 0] S256x256.size h (ix2 i c) (ix2 ⟨off + i.val, by omega⟩ c)
    (fun a => match a with
      | ⟨0, _⟩ => rfl
      | ⟨1, _⟩ => (Nat.zero_add _).symm)).trans (hB _ _)

section Block
variable (s : Fin 16 → EReal) (X : Vec Ideal S1536x256 .bf16) (x : Fin 256 → ℕ → EReal)
  (hX : ∀ (i : Fin 1536) (c : Fin 256), (X : S1536x256.Idx → EReal) (ix2 i c) = x c i.val)
include hX

/-- A tile of the block, transformed. -/
theorem v_apply (t off : ℕ) (ho : off = 256 * t) (h : ∀ a, (![off, 0] : Fin 2 → Nat) a + S256x256.size a ≤ S1536x256.size a)
    (c : Fin 256) (i : Fin 256) : v (rhtT bitsLt_bf16_f32 s) (tile X off h) (ix2 i c) = rhtCol s (x c) (256 * t + i.val) := by
  have h0 : off + 256 ≤ 1536 := h 0
  have e : ∀ k : Fin 256, (tile X off h : S256x256.Idx → EReal) (ix2 k c) = x c (256 * t + k.val) := fun k => by
    rw [← ho]
    exact (View.ld_unit_apply_of (Val := Elt Ideal) (e := EltTy.bf16) X ![off, 0] S256x256.size h (ix2 k c) (ix2 ⟨off + k.val, by omega⟩ c)
      (fun a => match a with
        | ⟨0, _⟩ => rfl
        | ⟨1, _⟩ => (Nat.zero_add _).symm)).trans (hX _ _)
  rw [v_sum]
  exact (rht_sum bitsLt_bf16_f32 s (fun k => (tile X off h : S256x256.Idx → EReal) (ix2 k c)) i).trans
    (rhtCol_tile s (x c) (fun k => (tile X off h : S256x256.Idx → EReal) (ix2 k c)) t e i)

/-- A tile's codes, at their place. -/
theorem codes_piece (B : Vec Ideal S1536x256 .i8) (b : Fin 256 → ℕ → BitVec 8)
    (hB : ∀ (i : Fin 1536) (c : Fin 256), (B : S1536x256.Idx → BitVec 8) (ix2 i c) = b c i.val) (t off offR : ℕ) (ho : off = 256 * t) (hR : offR = 128 * t)
    (h : ∀ a, (![off, 0] : Fin 2 → Nat) a + S256x256.size a ≤ S1536x256.size a)
    (hr : ∀ a, (![offR, 0] : Fin 2 → Nat) a + S128x256.size a ≤ S768x256.size a) (y : S128x256.Idx) :
    codes (rhtT bitsLt_bf16_f32 s) (tile X off h) (bits B off h) y
      = (fun z : S768x256.Idx => codeOf (some (b (z 1))) (rhtCol s (x (z 1))) (z 0).val) ((Rect.unit (s := S768x256) ![offR, 0] S128x256.size hr).emb y) := by
  have e := codesT_apply facts256 (nibV (w (rhtT bitsLt_bf16_f32 s) (tile X off h) (bits B off h))) (some (b (y 1))) (rhtCol s (x (y 1))) t (y 1)
    (fun i => congrArg kNib (srT_apply facts256 _ (rhtCol s (x (y 1))) t (y 1) (v_apply s X x hX t off ho h (y 1)) bitsLt_bf16_f32 _ (b (y 1)) (bits_apply B b hB t off ho h (y 1)) i)) (y 0)
  refine (congrArg (codes (rhtT bitsLt_bf16_f32 s) (tile X off h) (bits B off h)) (ix2_eta (a := 128) (b := 256) y).symm).trans (e.trans ?_)
  have e1 : (Rect.unit (s := S768x256) ![offR, 0] S128x256.size hr).emb y 1 = y 1 := Fin.ext (by
    show 0 + 1 * (y 1).val = (y 1).val; omega)
  have e0 : ((Rect.unit (s := S768x256) ![offR, 0] S128x256.size hr).emb y 0).val = 128 * t + (y 0).val := by
    show offR + 1 * (y 0).val = _; omega
  show _ = codeOf (some (b ((Rect.unit (s := S768x256) ![offR, 0] S128x256.size hr).emb y 1))) (rhtCol s (x ((Rect.unit (s := S768x256) ![offR, 0] S128x256.size hr).emb y 1))) ((Rect.unit (s := S768x256) ![offR, 0] S128x256.size hr).emb y 0).val
  rw [e0, e1]

/-- A tile's scale exponents, at their place. -/
theorem se_piece (t off offR : ℕ) (ho : off = 256 * t) (hR : offR = 8 * t)
    (h : ∀ a, (![off, 0] : Fin 2 → Nat) a + S256x256.size a ≤ S1536x256.size a)
    (hr : ∀ a, (![offR, 0] : Fin 2 → Nat) a + S8x256.size a ≤ S48x256.size a) (y : S8x256.Idx) :
    se (rhtT bitsLt_bf16_f32 s) (tile X off h) y
      = (fun z : S48x256.Idx => kSe (amax (rhtCol s (x (z 1))) (z 0).val)) ((Rect.unit (s := S48x256) ![offR, 0] S8x256.size hr).emb y) := by
  have e := seT_apply facts256 (v (rhtT bitsLt_bf16_f32 s) (tile X off h)) (rhtCol s (x (y 1))) t (y 1) (v_apply s X x hX t off ho h (y 1)) (y 0)
  refine (congrArg (se (rhtT bitsLt_bf16_f32 s) (tile X off h)) (ix2_eta (a := 8) (b := 256) y).symm).trans ?_
  unfold se
  rw [shapeCast_self]
  refine e.trans ?_
  have e1 : (Rect.unit (s := S48x256) ![offR, 0] S8x256.size hr).emb y 1 = y 1 := Fin.ext (by
    show 0 + 1 * (y 1).val = (y 1).val; omega)
  have e0 : ((Rect.unit (s := S48x256) ![offR, 0] S8x256.size hr).emb y 0).val = 8 * t + (y 0).val := by
    show offR + 1 * (y 0).val = _; omega
  show _ = kSe (amax (rhtCol s (x ((Rect.unit (s := S48x256) ![offR, 0] S8x256.size hr).emb y 1))) ((Rect.unit (s := S48x256) ![offR, 0] S8x256.size hr).emb y 0).val)
  rw [e0, e1]

/-- A tile's dequantised values, at their place. -/
theorem val_piece (B : Vec Ideal S1536x256 .i8) (b : Fin 256 → ℕ → BitVec 8)
    (hB : ∀ (i : Fin 1536) (c : Fin 256), (B : S1536x256.Idx → BitVec 8) (ix2 i c) = b c i.val) (t off : ℕ) (ho : off = 256 * t)
    (h : ∀ a, (![off, 0] : Fin 2 → Nat) a + S256x256.size a ≤ S1536x256.size a)
    (hr : ∀ a, (![0, off] : Fin 2 → Nat) a + S256x256.size a ≤ S256x1536.size a) (y : S256x256.Idx) :
    val (rhtT bitsLt_bf16_f32 s) (tile X off h) (bits B off h) y
      = (fun z : S256x1536.Idx => valOf (some (b (z 0))) (rhtCol s (x (z 0))) (z 1).val) ((Rect.unit (s := S256x1536) ![0, off] S256x256.size hr).emb y) := by
  have hv := v_apply s X x hX t off ho h (y 0)
  have e := valT_apply facts256 bitsLt_bf16_f32 (f4V (w (rhtT bitsLt_bf16_f32 s) (tile X off h) (bits B off h))) (v (rhtT bitsLt_bf16_f32 s) (tile X off h)) (some (b (y 0)))
    (rhtCol s (x (y 0))) t (y 0) hv
    (fun i => congrArg kF4 (srT_apply facts256 _ (rhtCol s (x (y 0))) t (y 0) hv bitsLt_bf16_f32 _ (b (y 0)) (bits_apply B b hB t off ho h (y 0)) i)) (y 1)
  refine (congrArg (val (rhtT bitsLt_bf16_f32 s) (tile X off h) (bits B off h)) (ix2_eta (a := 256) (b := 256) y).symm).trans ?_
  unfold val
  refine (transpose_apply _ _ _ (ix2 (y 0) (y 1)) (ix2 (y 1) (y 0)) (fun a => match a with
    | ⟨0, _⟩ => rfl
    | ⟨1, _⟩ => rfl)).trans ?_
  refine e.trans ?_
  have e1 : (Rect.unit (s := S256x1536) ![0, off] S256x256.size hr).emb y 0 = y 0 := Fin.ext (by
    show 0 + 1 * (y 0).val = (y 0).val; omega)
  have e0 : ((Rect.unit (s := S256x1536) ![0, off] S256x256.size hr).emb y 1).val = 256 * t + (y 1).val := by
    show off + 1 * (y 1).val = _; omega
  show _ = valOf (some (b ((Rect.unit (s := S256x1536) ![0, off] S256x256.size hr).emb y 0))) (rhtCol s (x ((Rect.unit (s := S256x1536) ![0, off] S256x256.size hr).emb y 0))) ((Rect.unit (s := S256x1536) ![0, off] S256x256.size hr).emb y 1).val
  rw [e0, e1]

/-- The block's codes. -/
theorem codesAll_apply (B : Vec Ideal S1536x256 .i8) (b : Fin 256 → ℕ → BitVec 8)
    (hB : ∀ (i : Fin 1536) (c : Fin 256), (B : S1536x256.Idx → BitVec 8) (ix2 i c) = b c i.val) (z : S768x256.Idx) :
    codesAll (rhtT bitsLt_bf16_f32 s) X B z = codeOf (some (b (z 1))) (rhtCol s (x (z 1))) (z 0).val := by
  unfold codesAll
  refine View.canon_apply_of_pieces (Val := Elt Ideal) (e := .i8) (fun z : S768x256.Idx => codeOf (some (b (z 1))) (rhtCol s (x (z 1))) (z 0).val) _ ?_ z
    (View.cover_of_tiled_head _ _ _ (by rfl) z)
  intro p hp
  simp only [List.mem_cons, List.not_mem_nil, or_false] at hp
  rcases hp with rfl | rfl | rfl | rfl | rfl | rfl
  · exact codes_piece s X x hX B b hB 5 1280 640 rfl rfl inb_S1536x256_S256x256_1280_0 inb_S768x256_S128x256_640_0
  · exact codes_piece s X x hX B b hB 4 1024 512 rfl rfl inb_S1536x256_S256x256_1024_0 inb_S768x256_S128x256_512_0
  · exact codes_piece s X x hX B b hB 3 768 384 rfl rfl inb_S1536x256_S256x256_768_0 inb_S768x256_S128x256_384_0
  · exact codes_piece s X x hX B b hB 2 512 256 rfl rfl inb_S1536x256_S256x256_512_0 inb_S768x256_S128x256_256_0
  · exact codes_piece s X x hX B b hB 1 256 128 rfl rfl inb_S1536x256_S256x256_256_0 inb_S768x256_S128x256_128_0
  · exact codes_piece s X x hX B b hB 0 0 0 rfl rfl inb_S1536x256_S256x256_0_0 inb_S768x256_S128x256_0_0

/-- The block's scale exponents. -/
theorem seAll_apply (z : S48x256.Idx) :
    seAll (rhtT bitsLt_bf16_f32 s) X z = kSe (amax (rhtCol s (x (z 1))) (z 0).val) := by
  unfold seAll
  refine View.canon_apply_of_pieces (Val := Elt Ideal) (e := .i32) (fun z : S48x256.Idx => kSe (amax (rhtCol s (x (z 1))) (z 0).val)) _ ?_ z
    (View.cover_of_tiled_head _ _ _ (by rfl) z)
  intro p hp
  simp only [List.mem_cons, List.not_mem_nil, or_false] at hp
  rcases hp with rfl | rfl | rfl | rfl | rfl | rfl
  · intro y; have e := se_piece s X x hX 5 1280 40 rfl rfl inb_S1536x256_S256x256_1280_0 inb_S48x256_S8x256_40_0 y; dsimp only at e ⊢; exact e
  · intro y; have e := se_piece s X x hX 4 1024 32 rfl rfl inb_S1536x256_S256x256_1024_0 inb_S48x256_S8x256_32_0 y; dsimp only at e ⊢; exact e
  · intro y; have e := se_piece s X x hX 3 768 24 rfl rfl inb_S1536x256_S256x256_768_0 inb_S48x256_S8x256_24_0 y; dsimp only at e ⊢; exact e
  · intro y; have e := se_piece s X x hX 2 512 16 rfl rfl inb_S1536x256_S256x256_512_0 inb_S48x256_S8x256_16_0 y; dsimp only at e ⊢; exact e
  · intro y; have e := se_piece s X x hX 1 256 8 rfl rfl inb_S1536x256_S256x256_256_0 inb_S48x256_S8x256_8_0 y; dsimp only at e ⊢; exact e
  · intro y; have e := se_piece s X x hX 0 0 0 rfl rfl inb_S1536x256_S256x256_0_0 inb_S48x256_S8x256_0_0 y; dsimp only at e ⊢; exact e

/-- The block's dequantised values. -/
theorem valAll_apply (B : Vec Ideal S1536x256 .i8) (b : Fin 256 → ℕ → BitVec 8)
    (hB : ∀ (i : Fin 1536) (c : Fin 256), (B : S1536x256.Idx → BitVec 8) (ix2 i c) = b c i.val) (z : S256x1536.Idx) :
    valAll (rhtT bitsLt_bf16_f32 s) X B z = valOf (some (b (z 0))) (rhtCol s (x (z 0))) (z 1).val := by
  unfold valAll
  refine View.canon_apply_of_pieces (Val := Elt Ideal) (e := .bf16) (fun z : S256x1536.Idx => valOf (some (b (z 0))) (rhtCol s (x (z 0))) (z 1).val) _ ?_ z
    (View.cover_of_tiled_head _ _ _ (by rfl) z)
  intro p hp
  simp only [List.mem_cons, List.not_mem_nil, or_false] at hp
  rcases hp with rfl | rfl | rfl | rfl | rfl | rfl
  · exact val_piece s X x hX B b hB 5 1280 rfl inb_S1536x256_S256x256_1280_0 inb_S256x1536_S256x256_0_1280
  · exact val_piece s X x hX B b hB 4 1024 rfl inb_S1536x256_S256x256_1024_0 inb_S256x1536_S256x256_0_1024
  · exact val_piece s X x hX B b hB 3 768 rfl inb_S1536x256_S256x256_768_0 inb_S256x1536_S256x256_0_768
  · exact val_piece s X x hX B b hB 2 512 rfl inb_S1536x256_S256x256_512_0 inb_S256x1536_S256x256_0_512
  · exact val_piece s X x hX B b hB 1 256 rfl inb_S1536x256_S256x256_256_0 inb_S256x1536_S256x256_0_256
  · exact val_piece s X x hX B b hB 0 0 rfl inb_S1536x256_S256x256_0_0 inb_S256x1536_S256x256_0_0

/-- A batch's scale exponents, at their place. -/
theorem exps_piece (b off : ℕ) (ho : off = 12 * b)
    (h : ∀ a, (![off, 0] : Fin 2 → Nat) a + S12x256.size a ≤ S48x256.size a)
    (hr : ∀ a, (![b, 0, 0] : Fin 3 → Nat) a + S1x12x256.size a ≤ S4x12x256.size a) (y : S1x12x256.Idx) :
    exps1 (rhtT bitsLt_bf16_f32 s) X off h y
      = (fun z : S4x12x256.Idx => rExp (amax (rhtCol s (x (z 2))) (12 * (z 0).val + (z 1).val)))
          ((Rect.unit (s := S4x12x256) ![b, 0, 0] S1x12x256.size hr).emb y) := by
  have h0 : off + 12 ≤ 48 := h 0
  have hy0 : (y 0).val < 1 := (y 0).isLt
  have hy1 : (y 1).val < 12 := (y 1).isLt
  have hy2 : (y 2).val < 256 := (y 2).isLt
  unfold exps1
  refine (shapeCast_apply _ _ y (ix2 (⟨(y 1).val, hy1⟩ : Fin 12) (⟨(y 2).val, hy2⟩ : Fin 256)) (by
    rw [Shape.rowMajor_val_two, Shape.rowMajor_val_three]
    show (y 1).val * 256 + (y 2).val = ((y 0).val * 12 + (y 1).val) * 256 + (y 2).val
    omega)).trans ?_
  refine (congrArg (fun z : BitVec 32 => z.setWidth 8) ((View.ld_unit_apply_of (Val := Elt Ideal) (e := EltTy.i32) (seAll (rhtT bitsLt_bf16_f32 s) X) ![off, 0] S12x256.size h
    (ix2 (⟨(y 1).val, hy1⟩ : Fin 12) (⟨(y 2).val, hy2⟩ : Fin 256)) (ix2 (⟨off + (y 1).val, by omega⟩ : Fin 48) (⟨(y 2).val, hy2⟩ : Fin 256))
      (fun a => match a with
        | ⟨0, _⟩ => rfl
        | ⟨1, _⟩ => (Nat.zero_add _).symm)).trans (seAll_apply s X x hX _))).trans ?_
  refine (kExp_eq _).trans ?_
  have e2 : (Rect.unit (s := S4x12x256) ![b, 0, 0] S1x12x256.size hr).emb y 2 = (⟨(y 2).val, hy2⟩ : Fin 256) := Fin.ext (by
    show 0 + 1 * (y 2).val = (y 2).val; omega)
  have e0 : 12 * ((Rect.unit (s := S4x12x256) ![b, 0, 0] S1x12x256.size hr).emb y 0).val + ((Rect.unit (s := S4x12x256) ![b, 0, 0] S1x12x256.size hr).emb y 1).val
      = off + (y 1).val := by
    show 12 * (b + 1 * (y 0).val) + (0 + 1 * (y 1).val) = _; omega
  show _ = rExp (amax (rhtCol s (x ((Rect.unit (s := S4x12x256) ![b, 0, 0] S1x12x256.size hr).emb y 2)))
    (12 * ((Rect.unit (s := S4x12x256) ![b, 0, 0] S1x12x256.size hr).emb y 0).val + ((Rect.unit (s := S4x12x256) ![b, 0, 0] S1x12x256.size hr).emb y 1).val))
  rw [e0, e2]
  rfl

/-- The block's scale exponents as bytes, batch by batch. -/
theorem expsAll_apply (z : S4x12x256.Idx) :
    expsAll (rhtT bitsLt_bf16_f32 s) X z = rExp (amax (rhtCol s (x (z 2))) (12 * (z 0).val + (z 1).val)) := by
  unfold expsAll
  refine View.canon_apply_of_pieces (Val := Elt Ideal) (e := .i8) (fun z : S4x12x256.Idx => rExp (amax (rhtCol s (x (z 2))) (12 * (z 0).val + (z 1).val))) _ ?_ z
    (View.cover_of_tiled_head _ _ _ (by rfl) z)
  intro p hp
  simp only [List.mem_cons, List.not_mem_nil, or_false] at hp
  rcases hp with rfl | rfl | rfl | rfl
  · exact exps_piece s X x hX 3 36 rfl inb_S48x256_S12x256_36_0 inb_S4x12x256_S1x12x256_3_0_0
  · exact exps_piece s X x hX 2 24 rfl inb_S48x256_S12x256_24_0 inb_S4x12x256_S1x12x256_2_0_0
  · exact exps_piece s X x hX 1 12 rfl inb_S48x256_S12x256_12_0 inb_S4x12x256_S1x12x256_1_0_0
  · exact exps_piece s X x hX 0 0 rfl inb_S48x256_S12x256_0_0 inb_S4x12x256_S1x12x256_0_0_0
end Block

end Mxfp4.Dy
-- ==== Proof.RefDy.lean ====
/-
  The reference of the dy kernel, stage by stage, as the quantiser's functions of the transformed columns.
-/
module

public import proofs.«01_k».proof.Proof.Gen.RefDyIdeal.Read
public import proofs.«01_k».proof.Proof.Col

@[expose] public section

set_option maxRecDepth 16384

noncomputable section

namespace Mxfp4.RefDy

open Idealize.ShloMosaic Cert.RefDyIdeal Cert.RefDyIdeal.Gen Cert.RefDyIdeal.Read

/-- The reference's matrix, entry by entry. -/
theorem v15_at (x1 : S16.Idx → EReal) (s : Fin 16 → EReal) (hs : ∀ k : Fin 16, ∀ j : S16.Idx, (j 0).val = k.val → x1 j = s k) (i k : Fin 16) :
    val_main_v15 (F := Ideal) x1 (ix2 i k) = hEntry s i k := by
  have e : val_main_v15 (F := Ideal) x1 (ix2 i k)
      = (((IntOp.subi 1#32 (IntOp.muli 2#32 (IntOp.andi (IntOp.ctpop (IntOp.andi (BitVec.ofNat 32 i.val) (BitVec.ofNat 32 k.val))) 1#32))).toInt : ℝ) : EReal)
        * val_main_v12 (F := Ideal) x1 (ix2 i k) * Ideal.ofBits .f32 0x3E800000#32 := rfl
  rw [e, had_sign, lit_quarter, val_main_v12_apply, val_main_v11_apply, hs k _ rfl]
  rfl

section Stages
variable (x0 : S4x384x2048.Idx → EReal) (x1 : S16.Idx → EReal) (s : Fin 16 → EReal)
  (hs : ∀ k : Fin 16, ∀ j : S16.Idx, (j 0).val = k.val → x1 j = s k)
  (x : Fin 2048 → ℕ → EReal)
  (hx : ∀ (i : Fin 1536) (c : Fin 2048), val_main_v16 (F := Ideal) x0 (ix2 i c) = x c i.val)
  (x2 : S4x384x2048.Idx → BitVec 8) (b : Fin 2048 → ℕ → BitVec 8)
  (hb : ∀ (i : Fin 1536) (c : Fin 2048), val_main_v22 (F := Ideal) x2 (ix2 i c) = b c i.val)
include hs hx

/-- The transformed rows. -/
theorem v21_at (i : Fin 1536) (c : Fin 2048) : val_main_v21 (F := Ideal) x0 x1 (ix2 i c) = rhtCol s (x c) i.val := by
  have hi := i.isLt
  have hc := c.isLt
  rw [val_main_v21_apply]
  have e1 : idx_main_v21 (ix2 i c) = ix3 (⟨i.val / 16, by omega⟩ : Fin 96) (⟨i.val % 16, by omega⟩ : Fin 16) c := funext fun a => Fin.ext (by
    match a with
    | ⟨0, _⟩ => show (i.val * 2048 + c.val) / 32768 = i.val / 16; omega
    | ⟨1, _⟩ => show (i.val * 2048 + c.val) / 2048 % 16 = i.val % 16; omega
    | ⟨2, _⟩ => show (i.val * 2048 + c.val) % 2048 = c.val; omega)
  rw [e1, val_main_v20_apply, val_main_v19_apply]
  unfold rhtCol hSum
  refine Finset.sum_congr rfl fun k _ => ?_
  have hk := k.isLt
  rw [val_main_v18_apply]
  have e2 : idx_main_v18 (lidx_main_v19 (idx_main_v20 (ix3 (⟨i.val / 16, by omega⟩ : Fin 96) (⟨i.val % 16, by omega⟩ : Fin 16) c)) k)
      = ix2 (⟨16 * (i.val / 16) + k.val, by omega⟩ : Fin 1536) c := funext fun a => Fin.ext (by
    match a with
    | ⟨0, _⟩ => show ((i.val / 16 * 16 + k.val) * 2048 + c.val) / 2048 = 16 * (i.val / 16) + k.val; omega
    | ⟨1, _⟩ => show ((i.val / 16 * 16 + k.val) * 2048 + c.val) % 2048 = c.val; omega)
  have e3 : ridx_main_v19 (idx_main_v20 (ix3 (⟨i.val / 16, by omega⟩ : Fin 96) (⟨i.val % 16, by omega⟩ : Fin 16) c)) k
      = ix2 (⟨i.val % 16, by omega⟩ : Fin 16) k := funext fun a => Fin.ext (by
    match a with
    | ⟨0, _⟩ => rfl
    | ⟨1, _⟩ => rfl)
  rw [e2, e3, v15_at x1 s hs]
  exact congrArg (fun z => z * hEntry s (⟨i.val % 16, by omega⟩ : Fin 16) k) (hx _ _)

/-- The rows in blocks of 32. -/
theorem v23_at (b : Fin 48) (k : Fin 32) (c : Fin 2048) :
    val_main_v23 (F := Ideal) x0 x1 (ix3 b k c) = rhtCol s (x c) (32 * b.val + k.val) := by
  have hb := b.isLt
  have hk := k.isLt
  have hc := c.isLt
  rw [val_main_v23_apply]
  have e : idx_main_v23 (ix3 b k c) = ix2 (⟨32 * b.val + k.val, by omega⟩ : Fin 1536) c := funext fun a => Fin.ext (by
    match a with
    | ⟨0, _⟩ => show ((b.val * 32 + k.val) * 2048 + c.val) / 2048 = 32 * b.val + k.val; omega
    | ⟨1, _⟩ => show ((b.val * 32 + k.val) * 2048 + c.val) % 2048 = c.val; omega)
  rw [e, v21_at x0 x1 s hs x hx]

/-- The largest magnitude of a block. -/
theorem v25_at (b : Fin 48) (c : Fin 2048) : val_main_v25 (F := Ideal) x0 x1 (ix2 b c) = amax (rhtCol s (x c)) b.val := by
  unfold val_main_v25
  have hr : S48x32x2048.Reduces [1] S48x2048 := by decide
  refine (Host.reduce_eq_fold_single (FloatOps.maximumf (F := Ideal) (φ := .f32)) (val_main_v24 (F := Ideal) x0 x1) (val_main_cst_2 (F := Ideal))
    reducesTo_S48x32x2048_S48x2048_d1 hr h_S_ (ix2 b c)).trans ?_
  unfold amax
  refine Finset.fold_congr fun k _ => ?_
  have el : hr.lift (ix2 b c) k = ix3 b k c := funext fun a => Fin.ext (by
    match a with
    | ⟨0, _⟩ => rfl
    | ⟨1, _⟩ => rfl
    | ⟨2, _⟩ => rfl)
  show val_main_v24 (F := Ideal) x0 x1 (hr.lift (ix2 b c) k) = _
  rw [el]
  exact congrArg (fun z : EReal => max z (-z)) (v23_at x0 x1 s hs x hx b k c)

omit hs hx in
/-- The exponent of a block's magnitude. -/
theorem v31_at (i : S48x2048.Idx) : val_main_v31 (F := Ideal) x0 x1 i = expo (val_main_v25 (F := Ideal) x0 x1 i) := by
  rw [val_main_v31_apply, val_main_v30_apply, val_main_v29_apply, val_main_v26_apply, val_main_v28_apply, val_main_v27_apply,
    val_main_cst_3_apply]
  simp only [Ideal.hostUnary_floor_def, Ideal.hostUnary_log_def, Ideal.hostDivf_def]
  rfl

omit hs hx in
/-- The reference's exponent. -/
theorem v36_at (i : S48x2048.Idx) : val_main_v36 (F := Ideal) x0 x1 i = rE (val_main_v25 (F := Ideal) x0 x1 i) := by
  unfold rE
  rw [← v31_at, val_main_v36_apply, val_main_v33_apply, val_main_v35_apply, val_main_v34_apply, val_main_v32_apply,
    val_main_call0_v1_apply]
  rfl

/-- The scale exponent bytes. -/
theorem v41_at (b : Fin 48) (c : Fin 2048) : val_main_v41 (F := Ideal) x0 x1 (ix2 b c) = rExp (amax (rhtCol s (x c)) b.val) := by
  rw [← v25_at x0 x1 s hs x hx]
  unfold rExp
  rw [← v36_at]
  rfl

/-- The inverse scales. -/
theorem v46_at (b : Fin 48) (c : Fin 2048) : val_main_v46 (F := Ideal) x0 x1 (ix2 b c) = rInv (amax (rhtCol s (x c)) b.val) := by
  rw [← v25_at x0 x1 s hs x hx]
  unfold rInv
  rw [← v36_at]
  rfl

/-- The scales. -/
theorem v174_at (b : Fin 48) (c : Fin 2048) : val_main_v174 (F := Ideal) x0 x1 (ix2 b c) = rScale (amax (rhtCol s (x c)) b.val) := by
  unfold rScale
  rw [← v41_at x0 x1 s hs x hx]
  rfl

/-- The scaled rows. -/
theorem v50_at (i : Fin 1536) (c : Fin 2048) : val_main_v50 (F := Ideal) x0 x1 (ix2 i c) = wOf (rhtCol s (x c)) i.val := by
  have hi := i.isLt
  have hc := c.isLt
  rw [val_main_v50_apply]
  have e : idx_main_v50 (ix2 i c) = ix3 (⟨i.val / 32, by omega⟩ : Fin 48) (⟨i.val % 32, by omega⟩ : Fin 32) c := funext fun a => Fin.ext (by
    match a with
    | ⟨0, _⟩ => show (i.val * 2048 + c.val) / 65536 = i.val / 32; omega
    | ⟨1, _⟩ => show (i.val * 2048 + c.val) / 2048 % 32 = i.val % 32; omega
    | ⟨2, _⟩ => show (i.val * 2048 + c.val) % 2048 = c.val; omega)
  rw [e, val_main_v49_apply, v23_at x0 x1 s hs x hx, val_main_v48_apply, val_main_v47_apply]
  have e2 : idx_main_v47 (idx_main_v48 (ix3 (⟨i.val / 32, by omega⟩ : Fin 48) (⟨i.val % 32, by omega⟩ : Fin 32) c)) = ix2 (⟨i.val / 32, by omega⟩ : Fin 48) c :=
    funext fun a => Fin.ext (by
      match a with
      | ⟨0, _⟩ => rfl
      | ⟨1, _⟩ => rfl)
  rw [e2, v46_at x0 x1 s hs x hx]
  have e3 : 32 * (i.val / 32) + i.val % 32 = i.val := by omega
  show rhtCol s (x c) (32 * (i.val / 32) + i.val % 32) * rInv (amax (rhtCol s (x c)) (i.val / 32)) = _
  rw [e3]
  rfl

include hb

omit hs hx in
/-- The random numbers. -/
theorem v67_at (i : Fin 1536) (c : Fin 2048) : val_main_v67 (F := Ideal) x2 (ix2 i c) = uOf (b c i.val) := by
  unfold uOf
  rw [← byte_toInt, ← hb]
  rfl

/-- The rounded magnitudes. -/
theorem v75_at (i : Fin 1536) (c : Fin 2048) : val_main_v75 (F := Ideal) x0 x1 x2 (ix2 i c) = qOf (some (b c)) (rhtCol s (x c)) i.val := by
  show _ = rSr (wOf (rhtCol s (x c)) i.val) (uOf (b c i.val))
  rw [← v50_at x0 x1 s hs x hx, ← v67_at x2 b hb]
  rfl

/-- The codes of the rows. -/
theorem v99_at (i : Fin 1536) (c : Fin 2048) : val_main_v99 (F := Ideal) x0 x1 x2 (ix2 i c) = nibOf (some (b c)) (rhtCol s (x c)) i.val := by
  unfold nibOf
  rw [← v75_at x0 x1 s hs x hx x2 b hb, ← v50_at x0 x1 s hs x hx]
  rfl

/-- The code of the first row of a pair. -/
theorem v102_at (r : Fin 768) (c : Fin 2048) : val_main_v102 (F := Ideal) x0 x1 x2 (ix2 r c) = nibOf (some (b c)) (rhtCol s (x c)) (2 * r.val) := by
  have hr := r.isLt
  have hc := c.isLt
  rw [val_main_v102_apply, val_main_v101_apply, val_main_v100_apply]
  have e : idx_main_v100 (idx_main_v101 (idx_main_v102 (ix2 r c))) = ix2 (⟨2 * r.val, by omega⟩ : Fin 1536) c := funext fun a => Fin.ext (by
    match a with
    | ⟨0, _⟩ => show (((r.val * 2048 + c.val) / 2048 * 2 + 0) * 2048 + (r.val * 2048 + c.val) % 2048) / 2048 = 2 * r.val; omega
    | ⟨1, _⟩ => show (((r.val * 2048 + c.val) / 2048 * 2 + 0) * 2048 + (r.val * 2048 + c.val) % 2048) % 2048 = c.val; omega)
  rw [e, v99_at x0 x1 s hs x hx x2 b hb]

/-- The code of the second row of a pair. -/
theorem v104_at (r : Fin 768) (c : Fin 2048) : val_main_v104 (F := Ideal) x0 x1 x2 (ix2 r c) = nibOf (some (b c)) (rhtCol s (x c)) (2 * r.val + 1) := by
  have hr := r.isLt
  have hc := c.isLt
  rw [val_main_v104_apply, val_main_v103_apply, val_main_v100_apply]
  have e : idx_main_v100 (idx_main_v103 (idx_main_v104 (ix2 r c))) = ix2 (⟨2 * r.val + 1, by omega⟩ : Fin 1536) c := funext fun a => Fin.ext (by
    match a with
    | ⟨0, _⟩ => show (((r.val * 2048 + c.val) / 2048 * 2 + (1 + 0)) * 2048 + (r.val * 2048 + c.val) % 2048) / 2048 = 2 * r.val + 1; omega
    | ⟨1, _⟩ => show (((r.val * 2048 + c.val) / 2048 * 2 + (1 + 0)) * 2048 + (r.val * 2048 + c.val) % 2048) % 2048 = c.val; omega)
  rw [e, v99_at x0 x1 s hs x hx x2 b hb]

/-- The code bytes. -/
theorem v108_at (r : Fin 768) (c : Fin 2048) : val_main_v108 (F := Ideal) x0 x1 x2 (ix2 r c) = codeOf (some (b c)) (rhtCol s (x c)) r.val := by
  unfold codeOf
  rw [← v102_at x0 x1 s hs x hx x2 b hb, ← v104_at x0 x1 s hs x hx x2 b hb]
  rfl

/-- The value of the low code of a byte. -/
theorem v136_at (r : Fin 768) (c : Fin 2048) : val_main_v136 (F := Ideal) x0 x1 x2 (ix2 r c) = rDec (nibOf (some (b c)) (rhtCol s (x c)) (2 * r.val)) := by
  rw [← dec_lo, ← v108_at x0 x1 s hs x hx x2 b hb]
  rfl

/-- The value of the high code of a byte. -/
theorem v164_at (r : Fin 768) (c : Fin 2048) : val_main_v164 (F := Ideal) x0 x1 x2 (ix2 r c) = rDec (nibOf (some (b c)) (rhtCol s (x c)) (2 * r.val + 1)) := by
  rw [← dec_hi, ← v108_at x0 x1 s hs x hx x2 b hb]
  rfl

/-- The two values of a byte, one under the other. -/
theorem v166_at (r : Fin 768) (p : Fin 2) (c : Fin 2048) :
    val_main_v166 (F := Ideal) x0 x1 x2 (ix3 r p c) = rDec (nibOf (some (b c)) (rhtCol s (x c)) (2 * r.val + p.val)) := by
  have hr := r.isLt
  have hc := c.isLt
  unfold val_main_v166
  match p with
  | ⟨0, _⟩ =>
    refine (concatenate_apply_piece 1 [⟨S768x1x2048, val_main_v137 (F := Ideal) x0 x1 x2⟩, ⟨S768x1x2048, val_main_v165 (F := Ideal) x0 x1 x2⟩] concatenates_S768x1x2048_S768x1x2048_S768x2x2048_d1 (ix3 (b := 2) r 0 c) 0 (show 0 < 2 by decide) S768x1x2048 (val_main_v137 (F := Ideal) x0 x1 x2) rfl rfl 0 rfl
      (ix3 (b := 1) r 0 c) (fun a => match a with
        | ⟨0, _⟩ => fun _ => rfl
        | ⟨1, _⟩ => fun hn => absurd rfl hn
        | ⟨2, _⟩ => fun _ => rfl) rfl).trans ?_
    rw [val_main_v137_apply]
    have e : idx_main_v137 (ix3 (b := 1) r 0 c) = ix2 r c := funext fun a => Fin.ext (by
      match a with
      | ⟨0, _⟩ => show ((r.val * 1 + 0) * 2048 + c.val) / 2048 = r.val; omega
      | ⟨1, _⟩ => show ((r.val * 1 + 0) * 2048 + c.val) % 2048 = c.val; omega)
    rw [e, v136_at x0 x1 s hs x hx x2 b hb]
    rfl
  | ⟨1, _⟩ =>
    refine (concatenate_apply_piece 1 [⟨S768x1x2048, val_main_v137 (F := Ideal) x0 x1 x2⟩, ⟨S768x1x2048, val_main_v165 (F := Ideal) x0 x1 x2⟩] concatenates_S768x1x2048_S768x1x2048_S768x2x2048_d1 (ix3 (b := 2) r 1 c) 1 (show 1 < 2 by decide) S768x1x2048 (val_main_v165 (F := Ideal) x0 x1 x2) rfl rfl 1 rfl
      (ix3 (b := 1) r 0 c) (fun a => match a with
        | ⟨0, _⟩ => fun _ => rfl
        | ⟨1, _⟩ => fun hn => absurd rfl hn
        | ⟨2, _⟩ => fun _ => rfl) rfl).trans ?_
    rw [val_main_v165_apply]
    have e : idx_main_v165 (ix3 (b := 1) r 0 c) = ix2 r c := funext fun a => Fin.ext (by
      match a with
      | ⟨0, _⟩ => show ((r.val * 1 + 0) * 2048 + c.val) / 2048 = r.val; omega
      | ⟨1, _⟩ => show ((r.val * 1 + 0) * 2048 + c.val) % 2048 = c.val; omega)
    rw [e, v164_at x0 x1 s hs x hx x2 b hb]

/-- The dequantised rows. -/
theorem v178_at (i : Fin 1536) (c : Fin 2048) : val_main_v178 (F := Ideal) x0 x1 x2 (ix2 i c) = valOf (some (b c)) (rhtCol s (x c)) i.val := by
  have hi := i.isLt
  have hc := c.isLt
  rw [val_main_v178_apply]
  have e : idx_main_v178 (ix2 i c) = ix3 (⟨i.val / 32, by omega⟩ : Fin 48) (⟨i.val % 32, by omega⟩ : Fin 32) c := funext fun a => Fin.ext (by
    match a with
    | ⟨0, _⟩ => show (i.val * 2048 + c.val) / 65536 = i.val / 32; omega
    | ⟨1, _⟩ => show (i.val * 2048 + c.val) / 2048 % 32 = i.val % 32; omega
    | ⟨2, _⟩ => show (i.val * 2048 + c.val) % 2048 = c.val; omega)
  rw [e, val_main_v177_apply, val_main_v176_apply, val_main_v175_apply, val_main_v167_apply]
  have e2 : idx_main_v175 (idx_main_v176 (ix3 (⟨i.val / 32, by omega⟩ : Fin 48) (⟨i.val % 32, by omega⟩ : Fin 32) c)) = ix2 (⟨i.val / 32, by omega⟩ : Fin 48) c :=
    funext fun a => Fin.ext (by
      match a with
      | ⟨0, _⟩ => rfl
      | ⟨1, _⟩ => rfl)
  have e3 : idx_main_v167 (ix3 (⟨i.val / 32, by omega⟩ : Fin 48) (⟨i.val % 32, by omega⟩ : Fin 32) c)
      = ix3 (⟨i.val / 2, by omega⟩ : Fin 768) (⟨i.val % 2, by omega⟩ : Fin 2) c := funext fun a => Fin.ext (by
    match a with
    | ⟨0, _⟩ => show ((i.val / 32 * 32 + i.val % 32) * 2048 + c.val) / 4096 = i.val / 2; omega
    | ⟨1, _⟩ => show ((i.val / 32 * 32 + i.val % 32) * 2048 + c.val) / 2048 % 2 = i.val % 2; omega
    | ⟨2, _⟩ => show ((i.val / 32 * 32 + i.val % 32) * 2048 + c.val) % 2048 = c.val; omega)
  rw [e2, e3, v174_at x0 x1 s hs x hx, v166_at x0 x1 s hs x hx x2 b hb]
  have e4 : 2 * (i.val / 2) + i.val % 2 = i.val := by omega
  show rDec (nibOf (some (b c)) (rhtCol s (x c)) (2 * (i.val / 2) + i.val % 2)) * rScale (amax (rhtCol s (x c)) (i.val / 32)) = _
  rw [e4]
  rfl

omit hb in
/-- The scale exponents, batch by batch. -/
theorem v179_at (a : Fin 4) (j : Fin 12) (c : Fin 2048) :
    val_main_v179 (F := Ideal) x0 x1 (ix3 a j c) = rExp (amax (rhtCol s (x c)) (12 * a.val + j.val)) := by
  have ha := a.isLt
  have hj := j.isLt
  have hc := c.isLt
  rw [val_main_v179_apply]
  have e : idx_main_v179 (ix3 a j c) = ix2 (⟨12 * a.val + j.val, by omega⟩ : Fin 48) c := funext fun q => Fin.ext (by
    match q with
    | ⟨0, _⟩ => show ((a.val * 12 + j.val) * 2048 + c.val) / 2048 = 12 * a.val + j.val; omega
    | ⟨1, _⟩ => show ((a.val * 12 + j.val) * 2048 + c.val) % 2048 = c.val; omega)
  rw [e, v41_at x0 x1 s hs x hx]

/-- The dequantised values, transposed. -/
theorem v180_at (c : Fin 2048) (i : Fin 1536) : val_main_v180 (F := Ideal) x0 x1 x2 (ix2 c i) = valOf (some (b c)) (rhtCol s (x c)) i.val := by
  rw [val_main_v180_apply]
  have e : idx_main_v180 (ix2 c i) = ix2 i c := funext fun a => Fin.ext (by
    match a with
    | ⟨0, _⟩ => rfl
    | ⟨1, _⟩ => rfl)
  rw [e, v178_at x0 x1 s hs x hx x2 b hb]

end Stages

end Mxfp4.RefDy
-- ==== Proof.AsmDy.lean ====
/-
  The dy kernel's arrays after the run are the reference's results.
-/
module

public import proofs.«01_k».proof.Proof.ReadDy
public import proofs.«01_k».proof.Proof.RefDy

@[expose] public section

set_option maxRecDepth 16384

noncomputable section

namespace Mxfp4.Dy

open Idealize.ShloMosaic Idealize.ShloMosaic.TcCoe Idealize.SL Idealize.SL.Sem Cert.DyIdeal Cert.DyIdeal.Gen
  Cert.DyIdeal.Value

variable (m : (ℓ : Loc nD τ sig) → Buf (Elt Ideal) ℓ)

/-- The rows of dy as the program is given them. -/
abbrev arg0 (c : Dev nD) : S4x384x2048.Idx → EReal := m ((c.tc : Thread nD τ).loc main_arg0)
/-- The signs as the program is given them. -/
abbrev arg1 (c : Dev nD) : S16.Idx → EReal := m ((c.tc : Thread nD τ).loc main_arg1)
/-- The random bits as the program is given them. -/
abbrev arg2 (c : Dev nD) : S4x384x2048.Idx → BitVec 8 := m ((c.tc : Thread nD τ).loc main_arg2)

/-- The array the launch reads in place of dy is dy with its two leading axes joined. -/
theorem rows_eq (c : Dev nD) :
    (V m c main_v0 : S1536x2048.Idx → EReal) = Cert.RefDyIdeal.Read.val_main_v16 (F := Ideal) (arg0 m c) := by
  show StableHlo.after hostOps0 _ _ = _
  unfold hostOps0
  rw [StableHlo.after_cons, StableHlo.after_cons, StableHlo.after_nil]
  rw [StableHlo.reshape_result_ne _ _ _ _ _ _ _ (show main_v0 ≠ main_v1 by decide)]
  exact (StableHlo.reshape_result main_arg0 main_v0 _ _ _ _ _).trans rfl

/-- The array the launch reads in place of the bits is the bits with their two leading axes joined. -/
theorem bits_eq (c : Dev nD) :
    (V m c main_v1 : S1536x2048.Idx → BitVec 8) = Cert.RefDyIdeal.Read.val_main_v22 (F := Ideal) (arg2 m c) := by
  show StableHlo.after hostOps0 _ _ = _
  unfold hostOps0
  rw [StableHlo.after_cons, StableHlo.after_cons, StableHlo.after_nil]
  refine (StableHlo.reshape_result main_arg2 main_v1 _ _ _ _ _).trans ?_
  funext i
  rw [StableHlo.reshape_result_ne _ _ _ _ _ _ _ (show main_arg2 ≠ main_v0 by decide)]
  rfl

/-- Position `k` of the signs. -/
def one (k : Fin 16) : S16.Idx := fun a => match a with | ⟨0, _⟩ => k

/-- The sixteen signs. -/
def sgn (c : Dev nD) (k : Fin 16) : EReal := arg1 m c (one k)

/-- Column `col` of dy, by row number. -/
def col (c : Dev nD) (col : Fin 2048) (i : ℕ) : EReal :=
  if h : i < 1536 then Cert.RefDyIdeal.Read.val_main_v16 (F := Ideal) (arg0 m c) (ix2 ⟨i, h⟩ col) else 0

/-- The joined rows at row `i` and column `k` are column `k` at `i`. -/
theorem col_at (c : Dev nD) (i : Fin 1536) (k : Fin 2048) :
    Cert.RefDyIdeal.Read.val_main_v16 (F := Ideal) (arg0 m c) (ix2 i k) = col m c k i.val := by
  unfold col
  rw [dif_pos i.isLt]

/-- Column `k` of the bits, by row number. -/
def bit (c : Dev nD) (k : Fin 2048) (i : ℕ) : BitVec 8 :=
  if h : i < 1536 then Cert.RefDyIdeal.Read.val_main_v22 (F := Ideal) (arg2 m c) (ix2 ⟨i, h⟩ k) else 0#8

/-- The joined bits at row `i` and column `k` are column `k` of the bits at `i`. -/
theorem bit_at (c : Dev nD) (i : Fin 1536) (k : Fin 2048) :
    Cert.RefDyIdeal.Read.val_main_v22 (F := Ideal) (arg2 m c) (ix2 i k) = bit m c k i.val := by
  unfold bit
  rw [dif_pos i.isLt]

/-- The given signs at any index of position `k` are sign `k`. -/
theorem sgn_at (c : Dev nD) (k : Fin 16) (j : S16.Idx) (h : (j 0).val = k.val) : arg1 m c j = sgn m c k := by
  unfold sgn
  congr 1
  funext a
  match a with
  | ⟨0, _⟩ => exact Fin.ext h

/-- Where the input windows' blocks lie. -/
theorem in0 : ∀ t : Fin cfg0.N, win0_0.index t (0 : Fin 1) = 0 := (by decide +kernel : ∀ t : Fin grid0.N, _)
/-- Block `t` of dy is the block number `t` of columns. -/
theorem in1 : ∀ t : Fin cfg0.N, win0_1.index t (0 : Fin 2) = 0 ∧ win0_1.index t (1 : Fin 2) = t.val :=
  (by decide +kernel : ∀ t : Fin grid0.N, _)
/-- Block `t` of the bits is the block number `t` of columns. -/
theorem in2 : ∀ t : Fin cfg0.N, win0_2.index t (0 : Fin 2) = 0 ∧ win0_2.index t (1 : Fin 2) = t.val :=
  (by decide +kernel : ∀ t : Fin grid0.N, _)

/-- Column `k` of block `t` is column `256 t + k` of the array. -/
def at0 (t : Fin cfg0.N) (k : Fin 256) : Fin 2048 :=
  ⟨256 * t.val + k.val, by have := Nat.lt_of_lt_of_eq t.isLt points; have := k.isLt; omega⟩

/-- The block of dy at point `t`. -/
theorem iblk1_at (c : Dev nD) (t : Fin cfg0.N) (i : Fin 1536) (k : Fin 256) :
    (iblk m c 1 t : S1536x256.Idx → EReal) (ix2 i k) = col m c (at0 t k) i.val := by
  obtain ⟨e0, e1⟩ := in1 t
  have h : (((cfg0.win 1).blk t).view.emb (ix2 i k) : S1536x2048.Idx) = ix2 i (at0 t k) := by
    funext a; apply Fin.ext
    match a with
    | ⟨0, _⟩ => show win0_1.index t (0 : Fin 2) * 1536 + 1 * i.val = i.val; omega
    | ⟨1, _⟩ => show win0_1.index t (1 : Fin 2) * 256 + 1 * k.val = 256 * t.val + k.val; omega
  show (V m c main_v0 : S1536x2048.Idx → EReal) (((cfg0.win 1).blk t).view.emb (ix2 i k)) = _
  rw [h, rows_eq, col_at]

/-- The block of the bits at point `t`. -/
theorem iblk2_at (c : Dev nD) (t : Fin cfg0.N) (i : Fin 1536) (k : Fin 256) :
    (iblk m c 2 t : S1536x256.Idx → BitVec 8) (ix2 i k) = bit m c (at0 t k) i.val := by
  obtain ⟨e0, e1⟩ := in2 t
  have h : (((cfg0.win 2).blk t).view.emb (ix2 i k) : S1536x2048.Idx) = ix2 i (at0 t k) := by
    funext a; apply Fin.ext
    match a with
    | ⟨0, _⟩ => show win0_2.index t (0 : Fin 2) * 1536 + 1 * i.val = i.val; omega
    | ⟨1, _⟩ => show win0_2.index t (1 : Fin 2) * 256 + 1 * k.val = 256 * t.val + k.val; omega
  show (V m c main_v1 : S1536x2048.Idx → BitVec 8) (((cfg0.win 2).blk t).view.emb (ix2 i k)) = _
  rw [h, bits_eq, bit_at]

/-- The signs' block is the whole of them. -/
theorem iblk0_at (c : Dev nD) (t : Fin cfg0.N) (k : Fin 16) : (iblk m c 0 t : S16.Idx → EReal) (one k) = sgn m c k := by
  have e0 := in0 t
  have h : (((cfg0.win 0).blk t).view.emb (one k) : S16.Idx) = one k := by
    funext a; apply Fin.ext
    match a with
    | ⟨0, _⟩ => show win0_0.index t (0 : Fin 1) * 16 + 1 * k.val = k.val; omega
  show (V m c main_arg1 : S16.Idx → EReal) (((cfg0.win 0).blk t).view.emb (one k)) = _
  rw [h, V_main_arg1]
  rfl

/-- The matrix the first point computes is the transform's, of the given signs. -/
theorem q_eq (c : Dev nD) : q m c = rhtT bitsLt_bf16_f32 (sgn m c) := by
  unfold q
  congr 1
  funext k
  unfold signs
  exact (View.ld_unit_apply_of (Val := Elt Ideal) (e := EltTy.f32) (iblk m c 0 ⟨0, by decide⟩ : S16.Idx → EReal) ![k.val] S1.size
    (fun a => match a with | ⟨0, _⟩ => k.isLt) _ (one k)
    (fun a => match a with | ⟨0, _⟩ => rfl)).trans (iblk0_at m c ⟨0, by decide⟩ k)

/-- The codes' array after the run is the reference's codes. -/
theorem codes_final (c : Dev nD) : (dats m 0 c).arrAt 3 cfg0.N
    = (Cert.RefDyIdeal.Read.val_main_v108 (F := Ideal) (arg0 m c) (arg1 m c) (arg2 m c) : S768x2048.Idx → BitVec 8) := by
  refine (dats m 0 c).arrAt_eq_of_cover 3 _ (fun t _ => ?_) (fun i => (covered_iff3 i).2 (by
    have h0 : (i 0).val < 768 := (i 0).isLt
    have h1 : (i 1).val < 2048 := (i 1).isLt
    omega))
  rw [flushed3, codes_at, q_eq]
  obtain ⟨e0, e1, e2, e3, e4⟩ := idx_facts3 t
  funext y
  have hy0 : (y 0).val < 768 := (y 0).isLt
  have hy1 : (y 1).val < 256 := (y 1).isLt
  have hx : (cfg0.win 3).xinj (grid0.coords t) y = (ix2 ⟨(y 0).val, hy0⟩ ⟨(y 1).val, hy1⟩ : S768x256.Idx) := by
    funext a; apply Fin.ext
    match a with
    | ⟨0, _⟩ => rfl
    | ⟨1, _⟩ => rfl
  have hb : (((cfg0.win 3).blk t).view.emb y : S768x2048.Idx) = ix2 ⟨(y 0).val, hy0⟩ (at0 t ⟨(y 1).val, hy1⟩) := by
    funext a; apply Fin.ext
    match a with
    | ⟨0, _⟩ => show win0_3.index t (0 : Fin 2) * 768 + 1 * (y 0).val = (y 0).val; omega
    | ⟨1, _⟩ => show win0_3.index t (1 : Fin 2) * 256 + 1 * (y 1).val = 256 * t.val + (y 1).val; omega
  show (codesAll _ (iblk m c 1 t) (iblk m c 2 t)) ((cfg0.win 3).xinj (grid0.coords t) y)
    = Cert.RefDyIdeal.Read.val_main_v108 (F := Ideal) (arg0 m c) (arg1 m c) (arg2 m c) (((cfg0.win 3).blk t).view.emb y)
  rw [hx, hb, codesAll_apply (sgn m c) (iblk m c 1 t) (fun k => col m c (at0 t k)) (iblk1_at m c t)
      (iblk m c 2 t) (fun k => bit m c (at0 t k)) (iblk2_at m c t),
    RefDy.v108_at (arg0 m c) (arg1 m c) (sgn m c) (sgn_at m c) (col m c) (col_at m c) (arg2 m c) (bit m c) (bit_at m c)]
  rfl

/-- The exponents' array after the run is the reference's exponents. -/
theorem exps_final (c : Dev nD) : (dats m 0 c).arrAt 4 cfg0.N
    = (Cert.RefDyIdeal.Read.val_main_v179 (F := Ideal) (arg0 m c) (arg1 m c) : S4x12x2048.Idx → BitVec 8) := by
  refine (dats m 0 c).arrAt_eq_of_cover 4 _ (fun t _ => ?_) (fun i => (covered_iff4 i).2 (by
    have h0 : (i 0).val < 4 := (i 0).isLt
    have h1 : (i 1).val < 12 := (i 1).isLt
    have h2 : (i 2).val < 2048 := (i 2).isLt
    omega))
  rw [flushed4, exps_at, q_eq]
  obtain ⟨e0, e1, e2, e3, e4, e5, e6⟩ := idx_facts4 t
  funext y
  have hy0 : (y 0).val < 4 := (y 0).isLt
  have hy1 : (y 1).val < 12 := (y 1).isLt
  have hy2 : (y 2).val < 256 := (y 2).isLt
  have hx : (cfg0.win 4).xinj (grid0.coords t) y = (ix3 ⟨(y 0).val, hy0⟩ ⟨(y 1).val, hy1⟩ ⟨(y 2).val, hy2⟩ : S4x12x256.Idx) := by
    funext a; apply Fin.ext
    match a with
    | ⟨0, _⟩ => rfl
    | ⟨1, _⟩ => rfl
    | ⟨2, _⟩ => rfl
  have hb : (((cfg0.win 4).blk t).view.emb y : S4x12x2048.Idx)
      = ix3 ⟨(y 0).val, hy0⟩ ⟨(y 1).val, hy1⟩ (at0 t ⟨(y 2).val, hy2⟩) := by
    funext a; apply Fin.ext
    match a with
    | ⟨0, _⟩ => show win0_4.index t (0 : Fin 3) * 4 + 1 * (y 0).val = (y 0).val; omega
    | ⟨1, _⟩ => show win0_4.index t (1 : Fin 3) * 12 + 1 * (y 1).val = (y 1).val; omega
    | ⟨2, _⟩ => show win0_4.index t (2 : Fin 3) * 256 + 1 * (y 2).val = 256 * t.val + (y 2).val; omega
  show (expsAll _ (iblk m c 1 t)) ((cfg0.win 4).xinj (grid0.coords t) y)
    = Cert.RefDyIdeal.Read.val_main_v179 (F := Ideal) (arg0 m c) (arg1 m c) (((cfg0.win 4).blk t).view.emb y)
  rw [hx, hb, expsAll_apply (sgn m c) (iblk m c 1 t) (fun k => col m c (at0 t k)) (iblk1_at m c t),
    RefDy.v179_at (arg0 m c) (arg1 m c) (sgn m c) (sgn_at m c) (col m c) (col_at m c)]
  rfl

/-- The quantised rows' array after the run is the reference's, with its axes exchanged as the reference's are. -/
theorem vals_final (c : Dev nD) : (dats m 0 c).arrAt 5 cfg0.N
    = (Cert.RefDyIdeal.Read.val_main_v180 (F := Ideal) (arg0 m c) (arg1 m c) (arg2 m c) : S2048x1536.Idx → EReal) := by
  refine (dats m 0 c).arrAt_eq_of_cover 5 _ (fun t _ => ?_) (fun i => (covered_iff5 i).2 (by
    have h0 : (i 0).val < 2048 := (i 0).isLt
    have h1 : (i 1).val < 1536 := (i 1).isLt
    omega))
  rw [flushed5, vals_at, q_eq]
  obtain ⟨e0, e1, e2, e3, e4⟩ := idx_facts5 t
  funext y
  have hy0 : (y 0).val < 256 := (y 0).isLt
  have hy1 : (y 1).val < 1536 := (y 1).isLt
  have hx : (cfg0.win 5).xinj (grid0.coords t) y = (ix2 ⟨(y 0).val, hy0⟩ ⟨(y 1).val, hy1⟩ : S256x1536.Idx) := by
    funext a; apply Fin.ext
    match a with
    | ⟨0, _⟩ => rfl
    | ⟨1, _⟩ => rfl
  have hb : (((cfg0.win 5).blk t).view.emb y : S2048x1536.Idx) = ix2 (at0 t ⟨(y 0).val, hy0⟩) ⟨(y 1).val, hy1⟩ := by
    funext a; apply Fin.ext
    match a with
    | ⟨0, _⟩ => show win0_5.index t (0 : Fin 2) * 256 + 1 * (y 0).val = 256 * t.val + (y 0).val; omega
    | ⟨1, _⟩ => show win0_5.index t (1 : Fin 2) * 1536 + 1 * (y 1).val = (y 1).val; omega
  show (valAll _ (iblk m c 1 t) (iblk m c 2 t)) ((cfg0.win 5).xinj (grid0.coords t) y)
    = Cert.RefDyIdeal.Read.val_main_v180 (F := Ideal) (arg0 m c) (arg1 m c) (arg2 m c) (((cfg0.win 5).blk t).view.emb y)
  rw [hx, hb, valAll_apply (sgn m c) (iblk m c 1 t) (fun k => col m c (at0 t k)) (iblk1_at m c t)
      (iblk m c 2 t) (fun k => bit m c (at0 t k)) (iblk2_at m c t),
    RefDy.v180_at (arg0 m c) (arg1 m c) (sgn m c) (sgn_at m c) (col m c) (col_at m c) (arg2 m c) (bit m c) (bit_at m c)]
  rfl

end Mxfp4.Dy
-- ==== Proof.lean ====
/-
  The proof of `Cert.Claim`: the frames of the four kernel programs and of the two references, that each idealised kernel is its
  kernel's own text, and that each idealised kernel's results are its reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Dy
public import proofs.«01_k».proof.Proof.Gen.Dy.Skeleton
public import proofs.«01_k».proof.Proof.Gen.Dy.Launch
public import proofs.«01_k».proof.Proof.Gen.Dy.Points
public import proofs.«01_k».proof.Proof.Gen.Dy.Frame
public import proofs.«01_k».proof.Proof.Gen.DyIdeal
public import proofs.«01_k».proof.Proof.Gen.DyIdeal.Skeleton
public import proofs.«01_k».proof.Proof.Gen.DyIdeal.Launch
public import proofs.«01_k».proof.Proof.Gen.DyIdeal.Points
public import proofs.«01_k».proof.Proof.Gen.DyIdeal.Frame
public import proofs.«01_k».proof.Proof.Gen.RefDyIdeal
public import proofs.«01_k».proof.Proof.AsmX
public import proofs.«01_k».proof.Proof.AsmDy
public import proofs.«01_k».proof.Proof.Gen.KernelIdeal.Value
public import proofs.«01_k».proof.Proof.Gen.DyIdeal.Value
public import proofs.«01_k».proof.Proof.Gen.ReferenceIdeal.Read
public import proofs.«01_k».proof.Proof.Gen.RefDyIdeal.Read
public import Idealize.ShloMosaic.Adequacy
public import Idealize.ShloMosaic.Init

@[expose] public section

noncomputable section

namespace Cert.Proof

open Idealize.ShloMosaic Idealize.SL.Sem Cert.Kernel

/-- The reference of the x kernel runs, keeps its arguments, and declares no semaphore. -/
theorem frame_RefX : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- The reference of the dy kernel runs, keeps its arguments, and declares no semaphore. -/
theorem frame_RefDy : Cert.quiescent_RefDyIdeal := fun m g _ =>
  (θ_run Cert.RefDyIdeal.defs _ _).mono (fun r h => ⟨fun c => (h c).2.2.2, sem_eq_zero_of_no_sems (by decide) r.2⟩)
    (Cert.RefDyIdeal.Value.run (F := Ideal) m g)

/-- Over the extended reals, from memories agreeing on the arguments, the idealised x kernel and its reference both end
    with the same three results and keep their arguments. -/
theorem algebraic_X : Cert.algebraic_KernelIdeal_ReferenceIdeal := by
  intro m g m' g' _ hag
  refine ⟨fun c => Cert.ReferenceIdeal.Read.val_main_v167 (F := Ideal) (Mxfp4.X.arg0 m c) (Mxfp4.X.arg1 m c) (Mxfp4.X.arg2 m c),
    fun c => Cert.ReferenceIdeal.Read.val_main_v96 (F := Ideal) (Mxfp4.X.arg0 m c) (Mxfp4.X.arg1 m c),
    fun c => Cert.ReferenceIdeal.Read.val_main_v168 (F := Ideal) (Mxfp4.X.arg0 m c) (Mxfp4.X.arg1 m c), ?_, ?_⟩
  · exact (θ_run Cert.KernelIdeal.defs _ _).mono (fun r h c => ⟨(h c).1.trans (Mxfp4.X.dw_final m c),
      (h c).2.1.trans (Mxfp4.X.codes_final m c), (h c).2.2.1.trans (Mxfp4.X.exps_final m c), (h c).2.2.2⟩)
      (Cert.KernelIdeal.Value.run_blocks (F := Ideal) m g)
  · refine (θ_run Cert.ReferenceIdeal.defs _ _).mono (fun r h c => ⟨?_, ?_, ?_, (h c).2.2.2⟩) (Cert.ReferenceIdeal.Value.run (F := Ideal) m' g')
    · refine (h c).1.trans ((Cert.ReferenceIdeal.Read.val_main_v167_eq (StableHlo.launchContents m' c)).trans ?_)
      simp only [StableHlo.launchContents_devRef, (hag c).1, (hag c).2.1, (hag c).2.2]
    · refine (h c).2.1.trans ((Cert.ReferenceIdeal.Read.val_main_v96_eq (StableHlo.launchContents m' c)).trans ?_)
      simp only [StableHlo.launchContents_devRef, (hag c).1, (hag c).2.1, (hag c).2.2]
    · refine (h c).2.2.1.trans ((Cert.ReferenceIdeal.Read.val_main_v168_eq (StableHlo.launchContents m' c)).trans ?_)
      simp only [StableHlo.launchContents_devRef, (hag c).1, (hag c).2.1, (hag c).2.2]

/-- Over the extended reals, from memories agreeing on the arguments, the idealised dy kernel and its reference both end
    with the same three results and keep their arguments. -/
theorem algebraic_Dy : Cert.algebraic_DyIdeal_RefDyIdeal := by
  intro m g m' g' _ hag
  refine ⟨fun c => Cert.RefDyIdeal.Read.val_main_v108 (F := Ideal) (Mxfp4.Dy.arg0 m c) (Mxfp4.Dy.arg1 m c) (Mxfp4.Dy.arg2 m c),
    fun c => Cert.RefDyIdeal.Read.val_main_v179 (F := Ideal) (Mxfp4.Dy.arg0 m c) (Mxfp4.Dy.arg1 m c),
    fun c => Cert.RefDyIdeal.Read.val_main_v180 (F := Ideal) (Mxfp4.Dy.arg0 m c) (Mxfp4.Dy.arg1 m c) (Mxfp4.Dy.arg2 m c), ?_, ?_⟩
  · exact (θ_run Cert.DyIdeal.defs _ _).mono (fun r h c => ⟨(h c).1.trans (Mxfp4.Dy.codes_final m c),
      (h c).2.1.trans (Mxfp4.Dy.exps_final m c), (h c).2.2.1.trans (Mxfp4.Dy.vals_final m c), (h c).2.2.2⟩)
      (Cert.DyIdeal.Value.run_blocks (F := Ideal) m g)
  · refine (θ_run Cert.RefDyIdeal.defs _ _).mono (fun r h c => ⟨?_, ?_, ?_, (h c).2.2.2⟩) (Cert.RefDyIdeal.Value.run (F := Ideal) m' g')
    · refine (h c).1.trans ((Cert.RefDyIdeal.Read.val_main_v108_eq (StableHlo.launchContents m' c)).trans ?_)
      simp only [StableHlo.launchContents_devRef, (hag c).1, (hag c).2.1, (hag c).2.2]
    · refine (h c).2.1.trans ((Cert.RefDyIdeal.Read.val_main_v179_eq (StableHlo.launchContents m' c)).trans ?_)
      simp only [StableHlo.launchContents_devRef, (hag c).1, (hag c).2.1, (hag c).2.2]
    · refine (h c).2.2.1.trans ((Cert.RefDyIdeal.Read.val_main_v180_eq (StableHlo.launchContents m' c)).trans ?_)
      simp only [StableHlo.launchContents_devRef, (hag c).1, (hag c).2.1, (hag c).2.2]

/-- Every claim of the certificate. -/
theorem claim : Cert.Claim :=
  ⟨Cert.Kernel.Gen.facts, Cert.KernelIdeal.Gen.facts, Cert.ReferenceIdeal.Gen.facts, Cert.Dy.Gen.facts, Cert.DyIdeal.Gen.facts,
    Cert.RefDyIdeal.Gen.facts,
    fun m g _ => Cert.Kernel.Gen.frame m g, fun m g _ => Cert.KernelIdeal.Gen.frame m g, frame_RefX,
    fun m g _ => Cert.Dy.Gen.frame m g, fun m g _ => Cert.DyIdeal.Gen.frame m g, frame_RefDy,
    trivial, algebraic_X, trivial, algebraic_Dy⟩

end Cert.Proof

end
